-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x2x2048x1024 : Shape := ⟨4, ![16, 2, 2048, 1024]⟩
abbrev S16 : Shape := ⟨1, ![16]⟩
abbrev S16x2048x2 : Shape := ⟨3, ![16, 2048, 2]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S16x2048x2 : S_.BroadcastsInDim S16x2048x2 (![] : Fin 0 → Fin S16x2048x2.rank)
  reducesTo_S16x2048x2_S_d0_1_2 : S16x2048x2.ReducesTo [0, 1, 2] S_

variable [Facts]

def fn {F : FTy → Type} [FloatOps F] (main_arg0 : FVec F S16x2x2048x1024 .f32) (main_arg1 : IVec S16 32) (main_arg2 : IVec S16x2048x2 32) : IVec S_ 1 :=
  let main_c : IVec S_ 32 := constantI S_ 32 1#32
  let main_v0 : IVec S16 32 := broadcastInDim S16 ![] bcast_S_S16 main_c
  let main_v1 : IVec S16 1 := cmpi .sge main_arg1 main_v0
  let main_c_0 : IVec S_ 1 := constantI S_ 1 1#1
  let main_v2 : IVec S_ 1 := (fun x v => Host.reduce IntOp.andi x v reducesTo_S16_S_d0 h_S_) main_v1 main_c_0
  let main_c_1 : IVec S_ 32 := constantI S_ 32 2048#32
  let main_v3 : IVec S16 32 := broadcastInDim S16 ![] bcast_S_S16 main_c_1
  let main_v4 : IVec S16 1 := cmpi .sle main_arg1 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  let main_c_3 : IVec S_ 32 := constantI S_ 32 0#32
  let main_v7 : IVec S16x2048x2 32 := broadcastInDim S16x2048x2 ![] bcast_S_S16x2048x2 main_c_3
  let main_v8 : IVec S16x2048x2 1 := cmpi .sge main_arg2 main_v7
  let main_c_4 : IVec S_ 1 := constantI S_ 1 1#1
  let main_v9 : IVec S_ 1 := (fun x v => Host.reduce IntOp.andi x v reducesTo_S16x2048x2_S_d0_1_2 h_S_) main_v8 main_c_4
  let main_v10 : IVec S_ 1 := andi main_v6 main_v9
  let main_c_5 : IVec S_ 32 := constantI S_ 32 320#32
  let main_v11 : IVec S16x2048x2 32 := broadcastInDim S16x2048x2 ![] bcast_S_S16x2048x2 main_c_5
  let main_v12 : IVec S16x2048x2 1 := cmpi .slt main_arg2 main_v11
  let main_c_6 : IVec S_ 1 := constantI S_ 1 1#1
  let main_v13 : IVec S_ 1 := (fun x v => Host.reduce IntOp.andi x v reducesTo_S16x2048x2_S_d0_1_2 h_S_) main_v12 main_c_6
  let main_v14 : IVec S_ 1 := andi main_v10 main_v13
  main_v14
-- ==== Kernel.lean ====
abbrev S16x2x2048x1024 : Shape := ⟨4, ![16, 2, 2048, 1024]⟩
abbrev S16 : Shape := ⟨1, ![16]⟩
abbrev S16x2048x2 : Shape := ⟨3, ![16, 2048, 2]⟩
abbrev S16x4096 : Shape := ⟨2, ![16, 4096]⟩
abbrev S16x2x1024 : Shape := ⟨3, ![16, 2, 1024]⟩
abbrev S2048 : Shape := ⟨1, ![2048]⟩
abbrev S640 : Shape := ⟨1, ![640]⟩
abbrev S1024 : Shape := ⟨1, ![1024]⟩
abbrev S16x640 : Shape := ⟨2, ![16, 640]⟩
abbrev S_ : Shape := ⟨0, ![]⟩
abbrev S1x2048 : Shape := ⟨2, ![1, 2048]⟩
abbrev S1x640 : Shape := ⟨2, ![1, 640]⟩
abbrev S1x1x1024 : Shape := ⟨3, ![1, 1, 1024]⟩
abbrev S1x16x1024 : Shape := ⟨3, ![1, 16, 1024]⟩
abbrev S1x1x1024x1024 : Shape := ⟨4, ![1, 1, 1024, 1024]⟩
abbrev S1 : Shape := ⟨1, ![1]⟩
abbrev S1024x1024 : Shape := ⟨2, ![1024, 1024]⟩
abbrev S1x1024 : Shape := ⟨2, ![1, 1024]⟩
abbrev S1x1x1 : Shape := ⟨3, ![1, 1, 1]⟩
abbrev S16x1024 : Shape := ⟨2, ![16, 1024]⟩

abbrev nBuf : Table → Nat
  | .hbm => 6
  | .local .tc .vmem => 4
  | .local .tc .smem => 2
  | .shared => 1
  | .local .scVector .vmem => 4
  | _ => 0

abbrev bufTy : (tb : Table) → Fin (nBuf tb) → BufTy
  | .hbm, ⟨0, _⟩ => ⟨S16x2x2048x1024, .f32⟩
  | .hbm, ⟨1, _⟩ => ⟨S16x2048x2, .i32⟩
  | .hbm, ⟨2, _⟩ => ⟨S16x4096, .i32⟩
  | .hbm, ⟨3, _⟩ => ⟨S16x2x1024, .f32⟩
  | .hbm, ⟨4, _⟩ => ⟨S1x16x1024, .f32⟩
  | .hbm, ⟨5, _⟩ => ⟨S16x1024, .f32⟩
  | .local .tc .vmem, ⟨0, _⟩ => ⟨S1x1x1024x1024, .f32⟩
  | .local .tc .vmem, ⟨1, _⟩ => ⟨S1x1x1024x1024, .f32⟩
  | .local .tc .vmem, ⟨2, _⟩ => ⟨S16x2x1024, .f32⟩
  | .local .tc .vmem, ⟨3, _⟩ => ⟨S1x16x1024, .f32⟩
  | .local .tc .smem, ⟨0, _⟩ => ⟨S16, .i32⟩
  | .local .tc .smem, ⟨1, _⟩ => ⟨S1, .f32⟩
  | .shared, ⟨0, _⟩ => ⟨S16x640, .f32⟩
  | .local .scVector .vmem, ⟨0, _⟩ => ⟨S2048, .i32⟩
  | .local .scVector .vmem, ⟨1, _⟩ => ⟨S640, .f32⟩
  | .local .scVector .vmem, ⟨2, _⟩ => ⟨S1024, .f32⟩
  | .local .scVector .vmem, ⟨3, _⟩ => ⟨S640, .f32⟩
  | _, _ => ⟨S16x2x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨1, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 8 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | _ => false

abbrev sig : RefSig :=
  ofTables nBuf rfl bufTy 5 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg1 : Ref sig .tc := ⟨.smem, 0, rfl⟩
abbrev main_v0_scv : Ref sig .scVector := ⟨.hbm, 2, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_scratch0 : Ref sig .tc := ⟨.smem, 1, rfl⟩
abbrev cc0_scratch4 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem2_0 : DmaSem sig := 7
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v28 : BitVec 32 := Scalar.addi v27 v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2048_i32 : BitVec 32 := 2048#32
  let v29 : BitVec 32 := Scalar.muli v26 c2048_i32
  ![v28.toNat, v29.toNat]
@[reducible] def k0_t1_loop : Scf.Loop 32 :=
  let c0_i32_12 : BitVec 32 := 0#32
  let c40_i32 : BitVec 32 := 40#32
  let v33 : BitVec 32 := Scalar.addi c0_i32_12 c40_i32
  let c1_i32_13 : BitVec 32 := 1#32
  ⟨c0_i32_12, v33, c1_i32_13⟩
def k0_off2 (k0_t1 : Fin k0_t1_loop.trips) : Fin 1 → Nat :=
  let c0_i32_12 : BitVec 32 := 0#32
  let c1_i32_13 : BitVec 32 := 1#32
  let arg9 : BitVec 32 := Scf.iv c0_i32_12 c1_i32_13 k0_t1
  let c16_i32 : BitVec 32 := 16#32
  let v41 : BitVec 32 := Scalar.muli arg9 c16_i32
  let v42 : Index := Scalar.indexCast v41
  ![v42.toNat]
@[reducible] def k0_t2_loop : Scf.Loop 32 :=
  let c0_i32_16 : BitVec 32 := 0#32
  let c64_i32 : BitVec 32 := 64#32
  let v34 : BitVec 32 := Scalar.addi c0_i32_16 c64_i32
  let c1_i32_17 : BitVec 32 := 1#32
  ⟨c0_i32_16, v34, c1_i32_17⟩

def k0_chk1 (v45 : IVec S16 32) : Prop :=
  (∀ a x, ((![v45] : Fin 1 → IVec S16 32) a x).toNat < S2048.size a)
theorem k0_idx1_inb : ∀ (v45 : IVec S16 32) (k0_hw1 : k0_chk1 v45), ∀ a x, ((![v45] : Fin 1 → IVec S16 32) a x).toNat < S2048.size a := fun v45 k0_hw1 => k0_hw1

def k0_chk2 (v50 : IVec S16 32) : Prop :=
  (∀ a x, ((![v50] : Fin 1 → IVec S16 32) a x).toNat < S2048.size a)
theorem k0_idx2_inb : ∀ (v50 : IVec S16 32) (k0_hw2 : k0_chk2 v50), ∀ a x, ((![v50] : Fin 1 → IVec S16 32) a x).toNat < S2048.size a := fun v50 k0_hw2 => k0_hw2

def k0_chk3 (v46 : IVec S16 32) : Prop :=
  (∀ a x, ((![v46] : Fin 1 → IVec S16 32) a x).toNat < S640.size a)
theorem k0_idx3_inb : ∀ (v46 : IVec S16 32) (k0_hw3 : k0_chk3 v46), ∀ a x, ((![v46] : Fin 1 → IVec S16 32) a x).toNat < S640.size a := fun v46 k0_hw3 => k0_hw3

def k0_chk4 (v53 : IVec S16 32) : Prop :=
  (∀ a x, ((![v53] : Fin 1 → IVec S16 32) a x).toNat < S640.size a)
theorem k0_idx4_inb : ∀ (v53 : IVec S16 32) (k0_hw4 : k0_chk4 v53), ∀ a x, ((![v53] : Fin 1 → IVec S16 32) a x).toNat < S640.size a := fun v53 k0_hw4 => k0_hw4
def k0_off3 (i : grid0.Coords) : Fin 2 → Nat :=
  let arg1 : BitVec 32 := BitVec.ofNat 32 (i 1).val
  let c0_i32_30_r1 : BitVec 32 := 0#32
  ![arg1.toNat, 0]
def k0_off4 (i : grid0.Coords) : Fin 2 → Nat :=
  let arg1 : BitVec 32 := BitVec.ofNat 32 (i 1).val
  let c1_i32_19 : BitVec 32 := 1#32
  let v35 : BitVec 32 := Scalar.addi arg1 c1_i32_19
  let c2_i32_20 : BitVec 32 := 2#32
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v36 : BitVec 32 := Scalar.muli c2_i32_20 v26
  let v37 : BitVec 32 := Scalar.subi v35 v36
  let c0_i32_30_r2 : BitVec 32 := 0#32
  ![v37.toNat, 0]
@[reducible] def k0_t3_loop : Scf.Loop 32 :=
  let c0_i32_22 : BitVec 32 := 0#32
  let c40_i32_23 : BitVec 32 := 40#32
  let v38 : BitVec 32 := Scalar.addi c0_i32_22 c40_i32_23
  let c1_i32_24 : BitVec 32 := 1#32
  ⟨c0_i32_22, v38, c1_i32_24⟩
def k0_off5 (k0_t3 : Fin k0_t3_loop.trips) : Fin 1 → Nat :=
  let c0_i32_22 : BitVec 32 := 0#32
  let c1_i32_24 : BitVec 32 := 1#32
  let arg9 : BitVec 32 := Scf.iv c0_i32_22 c1_i32_24 k0_t3
  let c16_i32 : BitVec 32 := 16#32
  let v41 : BitVec 32 := Scalar.muli arg9 c16_i32
  let v42 : Index := Scalar.indexCast v41
  ![v42.toNat]
@[reducible] def k0_t4_loop : Scf.Loop 32 :=
  let c0_i32_26 : BitVec 32 := 0#32
  let c64_i32_27 : BitVec 32 := 64#32
  let v39 : BitVec 32 := Scalar.addi c0_i32_26 c64_i32_27
  let c1_i32_28 : BitVec 32 := 1#32
  ⟨c0_i32_26, v39, c1_i32_28⟩

def k0_chk5 (v45 : IVec S16 32) : Prop :=
  (∀ a x, ((![v45] : Fin 1 → IVec S16 32) a x).toNat < S2048.size a)
theorem k0_idx5_inb : ∀ (v45 : IVec S16 32) (k0_hw5 : k0_chk5 v45), ∀ a x, ((![v45] : Fin 1 → IVec S16 32) a x).toNat < S2048.size a := fun v45 k0_hw5 => k0_hw5

def k0_chk6 (v50 : IVec S16 32) : Prop :=
  (∀ a x, ((![v50] : Fin 1 → IVec S16 32) a x).toNat < S2048.size a)
theorem k0_idx6_inb : ∀ (v50 : IVec S16 32) (k0_hw6 : k0_chk6 v50), ∀ a x, ((![v50] : Fin 1 → IVec S16 32) a x).toNat < S2048.size a := fun v50 k0_hw6 => k0_hw6

def k0_chk7 (v46 : IVec S16 32) : Prop :=
  (∀ a x, ((![v46] : Fin 1 → IVec S16 32) a x).toNat < S640.size a)
theorem k0_idx7_inb : ∀ (v46 : IVec S16 32) (k0_hw7 : k0_chk7 v46), ∀ a x, ((![v46] : Fin 1 → IVec S16 32) a x).toNat < S640.size a := fun v46 k0_hw7 => k0_hw7

def k0_chk8 (v54 : IVec S16 32) : Prop :=
  (∀ a x, ((![v54] : Fin 1 → IVec S16 32) a x).toNat < S640.size a)
theorem k0_idx8_inb : ∀ (v54 : IVec S16 32) (k0_hw8 : k0_chk8 v54), ∀ a x, ((![v54] : Fin 1 → IVec S16 32) a x).toNat < S640.size a := fun v54 k0_hw8 => k0_hw8
def k0_off6 (k0_t4 : Fin k0_t4_loop.trips) : Fin 1 → Nat :=
  let c0_i32_26 : BitVec 32 := 0#32
  let c1_i32_28 : BitVec 32 := 1#32
  let arg9 : BitVec 32 := Scf.iv c0_i32_26 c1_i32_28 k0_t4
  let c16_i32_33 : BitVec 32 := 16#32
  let v58 : BitVec 32 := Scalar.muli arg9 c16_i32_33
  let v59 : Index := Scalar.indexCast v58
  ![v59.toNat]
def k0_off7 (i : grid0.Coords) : Fin 3 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v28 : BitVec 32 := Scalar.addi v27 v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_30_r3 : BitVec 32 := 0#32
  ![v28.toNat, v26.toNat, 0]
abbrev grid1 : Pipeline.Grid := ⟨2, ![16, 2], ![false, false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) (v1 : BitVec 32) : Fin 3 → Nat :=
  let arg0 : BitVec 32 := BitVec.ofNat 32 (i 0).val
  let v39 : Index := Scalar.indexCast arg0
  let arg1 : BitVec 32 := BitVec.ofNat 32 (i 1).val
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let c1_i32_14 : BitVec 32 := 1#32
  let v35 : BitVec 32 := Scalar.subi v20 c1_i32_14
  let v36 : BitVec 32 := Scalar.minsi arg1 v35
  let v40 : Index := Scalar.indexCast v36
  let c0_18 : Index := 0#32
  ![v39.toNat, v40.toNat, 0]
def k1_cond3 (i : grid1.Coords) (v1 : BitVec 32) : BitVec 1 :=
  let arg1 : BitVec 32 := BitVec.ofNat 32 (i 1).val
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c1024_i32_0 : BitVec 32 := 1024#32
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let v4 : BitVec 32 := Scalar.divsi v3 c1024_i32_0
  let c1_i32_5 : BitVec 32 := 1#32
  let v19 : BitVec 32 := Scalar.subi v4 c1_i32_5
  let v20 : BitVec 32 := Scalar.select v18 v19 v4
  let v29 : BitVec 1 := Scalar.cmpi .slt arg1 v20
  let v30 : BitVec 32 := Scalar.extui v29
  let c0_i32_11 : BitVec 32 := 0#32
  let v31 : BitVec 1 := Scalar.cmpi .ne v30 c0_i32_11
  v31

def k1_chk1 (i : grid1.Coords) (v1 : BitVec 32) : Prop :=
  (∀ (k1_h3 : k1_cond3 i v1 = 1#1), ∀ a, (k1_off2 i v1) a + S1x1x1024.size a ≤ S16x2x1024.size a)
theorem k1_off2_inb : ∀ (i : grid1.Coords) (v1 : BitVec 32) (k1_hw1 : k1_chk1 i v1), ∀ (k1_h3 : k1_cond3 i v1 = 1#1), ∀ a, (k1_off2 i v1) a + S1x1x1024.size a ≤ S16x2x1024.size a := fun i v1 k1_hw1 k1_h3 => k1_hw1 k1_h3

def k1_off3 (i : grid1.Coords) : Fin 1 → Nat :=
  let arg0 : BitVec 32 := BitVec.ofNat 32 (i 0).val
  let v48 : Index := Scalar.indexCast arg0
  ![v48.toNat]
def k1_off4 (i : grid1.Coords) : Fin 3 → Nat :=
  let c0_20 : Index := 0#32
  let arg0 : BitVec 32 := BitVec.ofNat 32 (i 0).val
  let v54 : Index := Scalar.indexCast arg0
  let c0_21 : Index := 0#32
  ![0, v54.toNat, 0]
def k1_cond4 (i : grid1.Coords) : BitVec 1 :=
  let arg1 : BitVec 32 := BitVec.ofNat 32 (i 1).val
  let c1_i32_12 : BitVec 32 := 1#32
  let v32 : BitVec 1 := Scalar.cmpi .eq arg1 c1_i32_12
  let v33 : BitVec 32 := Scalar.extui v32
  let c0_i32_13 : BitVec 32 := 0#32
  let v34 : BitVec 1 := Scalar.cmpi .ne v33 c0_i32_13
  v34

def k1_off5 (i : grid1.Coords) : Fin 3 → Nat :=
  let c0 : Index := 0#32
  let arg0 : BitVec 32 := BitVec.ofNat 32 (i 0).val
  let v35 : Index := Scalar.indexCast arg0
  let c0_14 : Index := 0#32
  ![0, v35.toNat, 0]
def k1_cond1 (i : grid1.Coords) : BitVec 1 :=
  let arg0 : BitVec 32 := BitVec.ofNat 32 (i 0).val
  let c0_i32_6 : BitVec 32 := 0#32
  let v21 : BitVec 1 := Scalar.cmpi .eq arg0 c0_i32_6
  let arg1 : BitVec 32 := BitVec.ofNat 32 (i 1).val
  let c0_i32_7 : BitVec 32 := 0#32
  let v22 : BitVec 1 := Scalar.cmpi .eq arg1 c0_i32_7
  let v23 : BitVec 1 := Scalar.andi v21 v22
  let v24 : BitVec 32 := Scalar.extui v23
  let c0_i32_8 : BitVec 32 := 0#32
  let v25 : BitVec 1 := Scalar.cmpi .ne v24 c0_i32_8
  v25

def cc1_transform_0 (k1_off1_inb : ∀ i : grid1.Coords, ∀ a, (k1_off1 i) a + S1.size a ≤ S16.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k1_off1_inb i)) numel1_S1
  let c1024_i32 : BitVec 32 := 1024#32
  let v2 : BitVec 32 := Scalar.addi v1 c1024_i32
  let c1_i32 : BitVec 32 := 1#32
  let v3 : BitVec 32 := Scalar.subi v2 c1_i32
  let c1024_i32_0 : BitVec 32 := 1024#32
  let v4 : BitVec 32 := Scalar.divsi v3 c1024_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let v22 : BitVec 32 := Scalar.minsi arg1 v21
  let c1_i32_7 : BitVec 32 := 1#32
  let c0_i32_8 : BitVec 32 := 0#32
  let c0_i32_9 : BitVec 32 := 0#32
  ![arg0.toNat, c1_i32_7.toNat, v22.toNat, c0_i32_8.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S1x1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16x2x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x16x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x2x2048x1024 : Shape := ⟨4, ![16, 2, 2048, 1024]⟩
abbrev S16 : Shape := ⟨1, ![16]⟩
abbrev S16x2048x2 : Shape := ⟨3, ![16, 2048, 2]⟩
abbrev S16x1x2048x1024 : Shape := ⟨4, ![16, 1, 2048, 1024]⟩
abbrev S16x2048x1024 : Shape := ⟨3, ![16, 2048, 1024]⟩
abbrev S16x2048x1 : Shape := ⟨3, ![16, 2048, 1]⟩
abbrev S16x2048 : Shape := ⟨2, ![16, 2048]⟩
abbrev S16x1 : Shape := ⟨2, ![16, 1]⟩
abbrev S_ : Shape := ⟨0, ![]⟩
abbrev S16x320 : Shape := ⟨2, ![16, 320]⟩
abbrev S1 : Shape := ⟨1, ![1]⟩
abbrev S1x1x1 : Shape := ⟨3, ![1, 1, 1]⟩
abbrev S2048 : Shape := ⟨1, ![2048]⟩
abbrev S1x2048 : Shape := ⟨2, ![1, 2048]⟩
abbrev S16x1024 : Shape := ⟨2, ![16, 1024]⟩

abbrev nBuf : Space → Nat
  | .hbm => 120
  | .vmem => 0
  | .smem => 0
  | _ => 0

abbrev bufTy : (tb : Table) → Fin (tcTables nBuf tb) → BufTy
  | .hbm, ⟨0, _⟩ => ⟨S16x2x2048x1024, .f32⟩
  | .hbm, ⟨1, _⟩ => ⟨S16, .i32⟩
  | .hbm, ⟨2, _⟩ => ⟨S16x2048x2, .i32⟩
  | .hbm, ⟨3, _⟩ => ⟨S16x1x2048x1024, .f32⟩
  | .hbm, ⟨4, _⟩ => ⟨S16x2048x1024, .f32⟩
  | .hbm, ⟨5, _⟩ => ⟨S16x2048x1, .i32⟩
  | .hbm, ⟨6, _⟩ => ⟨S16x2048, .i32⟩
  | .hbm, ⟨7, _⟩ => ⟨S16x2048x1, .i32⟩
  | .hbm, ⟨8, _⟩ => ⟨S16x2048, .i32⟩
  | .hbm, ⟨9, _⟩ => ⟨S16, .i32⟩
  | .hbm, ⟨10, _⟩ => ⟨S16x1, .i32⟩
  | .hbm, ⟨11, _⟩ => ⟨S16x2048, .i32⟩
  | .hbm, ⟨12, _⟩ => ⟨S_, .f32⟩
  | .hbm, ⟨13, _⟩ => ⟨S16x320, .f32⟩
  | .hbm, ⟨14, _⟩ => ⟨S_, .i32⟩
  | .hbm, ⟨15, _⟩ => ⟨S16x2048, .i32⟩
  | .hbm, ⟨16, _⟩ => ⟨S16x2048, .i1⟩
  | .hbm, ⟨17, _⟩ => ⟨S_, .i32⟩
  | .hbm, ⟨18, _⟩ => ⟨S16x2048, .i32⟩
  | .hbm, ⟨19, _⟩ => ⟨S16x2048, .i32⟩
  | .hbm, ⟨20, _⟩ => ⟨S16x2048, .i32⟩
  | .hbm, ⟨21, _⟩ => ⟨S_, .i32⟩
  | .hbm, ⟨22, _⟩ => ⟨S16x2048, .i32⟩
  | .hbm, ⟨23, _⟩ => ⟨S16x2048, .i1⟩
  | .hbm, ⟨24, _⟩ => ⟨S_, .i32⟩
  | .hbm, ⟨25, _⟩ => ⟨S16x2048, .i32⟩
  | .hbm, ⟨26, _⟩ => ⟨S16x2048, .i32⟩
  | .hbm, ⟨27, _⟩ => ⟨S16x2048, .i32⟩
  | .hbm, ⟨28, _⟩ => ⟨S16x2048x1, .i32⟩
  | .hbm, ⟨29, _⟩ => ⟨S16x2048x1, .i32⟩
  | .hbm, ⟨30, _⟩ => ⟨S16x2048x2, .i32⟩
  | .hbm, ⟨31, _⟩ => ⟨S_, .f32⟩
  | .hbm, ⟨32, _⟩ => ⟨S16x2048, .f32⟩
  | .hbm, ⟨33, _⟩ => ⟨S16x320, .f32⟩
  | .hbm, ⟨34, _⟩ => ⟨S_, .f32⟩
  | .hbm, ⟨35, _⟩ => ⟨S16x320, .f32⟩
  | .hbm, ⟨36, _⟩ => ⟨S_, .i32⟩
  | .hbm, ⟨37, _⟩ => ⟨S16x2048, .i32⟩
  | .hbm, ⟨38, _⟩ => ⟨S16x2048, .i1⟩
  | .hbm, ⟨39, _⟩ => ⟨S_, .i32⟩
  | .hbm, ⟨40, _⟩ => ⟨S16x2048, .i32⟩
  | .hbm, ⟨41, _⟩ => ⟨S16x2048, .i32⟩
  | .hbm, ⟨42, _⟩ => ⟨S16x2048, .i32⟩
  | .hbm, ⟨43, _⟩ => ⟨S_, .i32⟩
  | .hbm, ⟨44, _⟩ => ⟨S16x2048, .i32⟩
  | .hbm, ⟨45, _⟩ => ⟨S16x2048, .i1⟩
  | .hbm, ⟨46, _⟩ => ⟨S_, .i32⟩
  | .hbm, ⟨47, _⟩ => ⟨S16x2048, .i32⟩
  | .hbm, ⟨48, _⟩ => ⟨S16x2048, .i32⟩
  | .hbm, ⟨49, _⟩ => ⟨S16x2048, .i32⟩
  | .hbm, ⟨50, _⟩ => ⟨S16x2048x1, .i32⟩
  | .hbm, ⟨51, _⟩ => ⟨S16x2048x1, .i32⟩
  | .hbm, ⟨52, _⟩ => ⟨S16x2048x2, .i32⟩
  | .hbm, ⟨53, _⟩ => ⟨S_, .f32⟩
  | .hbm, ⟨54, _⟩ => ⟨S16x2048, .f32⟩
  | .hbm, ⟨55, _⟩ => ⟨S16x320, .f32⟩
  | .hbm, ⟨56, _⟩ => ⟨S_, .i32⟩
  | .hbm, ⟨57, _⟩ => ⟨S16x2048, .i32⟩
  | .hbm, ⟨58, _⟩ => ⟨S16x2048, .i1⟩
  | .hbm, ⟨59, _⟩ => ⟨S_, .i32⟩
  | .hbm, ⟨60, _⟩ => ⟨S16x2048, .i32⟩
  | .hbm, ⟨61, _⟩ => ⟨S16x2048, .i32⟩
  | .hbm, ⟨62, _⟩ => ⟨S16x2048, .i32⟩
  | .hbm, ⟨63, _⟩ => ⟨S16x2048x1, .i32⟩
  | .hbm, ⟨64, _⟩ => ⟨S1, .i32⟩
  | .hbm, ⟨65, _⟩ => ⟨S_, .i32⟩
  | .hbm, ⟨66, _⟩ => ⟨S16x2048x1, .i32⟩
  | .hbm, ⟨67, _⟩ => ⟨S16x2048x1, .i1⟩
  | .hbm, ⟨68, _⟩ => ⟨S1x1x1, .i32⟩
  | .hbm, ⟨69, _⟩ => ⟨S16x2048x1, .i32⟩
  | .hbm, ⟨70, _⟩ => ⟨S16x2048x1, .i1⟩
  | .hbm, ⟨71, _⟩ => ⟨S16x2048x1, .i1⟩
  | .hbm, ⟨72, _⟩ => ⟨S_, .i1⟩
  | .hbm, ⟨73, _⟩ => ⟨S16x2048, .i1⟩
  | .hbm, ⟨74, _⟩ => ⟨S16x2048, .f32⟩
  | .hbm, ⟨75, _⟩ => ⟨S_, .f32⟩
  | .hbm, ⟨76, _⟩ => ⟨S16x2048, .f32⟩
  | .hbm, ⟨77, _⟩ => ⟨S16x2048, .f32⟩
  | .hbm, ⟨78, _⟩ => ⟨S_, .i32⟩
  | .hbm, ⟨79, _⟩ => ⟨S16x2048, .i32⟩
  | .hbm, ⟨80, _⟩ => ⟨S16x2048, .i1⟩
  | .hbm, ⟨81, _⟩ => ⟨S_, .i32⟩
  | .hbm, ⟨82, _⟩ => ⟨S16x2048, .i32⟩
  | .hbm, ⟨83, _⟩ => ⟨S16x2048, .i32⟩
  | .hbm, ⟨84, _⟩ => ⟨S16x2048, .i32⟩
  | .hbm, ⟨85, _⟩ => ⟨S16x2048x1, .i32⟩
  | .hbm, ⟨86, _⟩ => ⟨S1, .i32⟩
  | .hbm, ⟨87, _⟩ => ⟨S_, .i32⟩
  | .hbm, ⟨88, _⟩ => ⟨S16x2048x1, .i32⟩
  | .hbm, ⟨89, _⟩ => ⟨S16x2048x1, .i1⟩
  | .hbm, ⟨90, _⟩ => ⟨S1x1x1, .i32⟩
  | .hbm, ⟨91, _⟩ => ⟨S16x2048x1, .i32⟩
  | .hbm, ⟨92, _⟩ => ⟨S16x2048x1, .i1⟩
  | .hbm, ⟨93, _⟩ => ⟨S16x2048x1, .i1⟩
  | .hbm, ⟨94, _⟩ => ⟨S_, .i1⟩
  | .hbm, ⟨95, _⟩ => ⟨S16x2048, .i1⟩
  | .hbm, ⟨96, _⟩ => ⟨S16x2048, .f32⟩
  | .hbm, ⟨97, _⟩ => ⟨S_, .f32⟩
  | .hbm, ⟨98, _⟩ => ⟨S16x2048, .f32⟩
  | .hbm, ⟨99, _⟩ => ⟨S16x2048, .f32⟩
  | .hbm, ⟨100, _⟩ => ⟨S16x2048, .f32⟩
  | .hbm, ⟨101, _⟩ => ⟨S2048, .i32⟩
  | .hbm, ⟨102, _⟩ => ⟨S1x2048, .i32⟩
  | .hbm, ⟨103, _⟩ => ⟨S16x1, .i32⟩
  | .hbm, ⟨104, _⟩ => ⟨S16x2048, .i32⟩
  | .hbm, ⟨105, _⟩ => ⟨S16x2048, .i32⟩
  | .hbm, ⟨106, _⟩ => ⟨S16x2048, .i1⟩
  | .hbm, ⟨107, _⟩ => ⟨S16x2048, .f32⟩
  | .hbm, ⟨108, _⟩ => ⟨S16x2048, .f32⟩
  | .hbm, ⟨109, _⟩ => ⟨S_, .f32⟩
  | .hbm, ⟨110, _⟩ => ⟨S16, .f32⟩
  | .hbm, ⟨111, _⟩ => ⟨S16x1, .f32⟩
  | .hbm, ⟨112, _⟩ => ⟨S16x2048, .f32⟩
  | .hbm, ⟨113, _⟩ => ⟨S16x2048, .f32⟩
  | .hbm, ⟨114, _⟩ => ⟨S16x2048, .f32⟩
  | .hbm, ⟨115, _⟩ => ⟨S16x2048x1, .f32⟩
  | .hbm, ⟨116, _⟩ => ⟨S16x2048x1024, .f32⟩
  | .hbm, ⟨117, _⟩ => ⟨S16x2048x1024, .f32⟩
  | .hbm, ⟨118, _⟩ => ⟨S_, .f32⟩
  | .hbm, ⟨119, _⟩ => ⟨S16x1024, .f32⟩
  | _, _ => ⟨S16x2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_cst : Ref sig .tc := ⟨.hbm, 75, rfl⟩
abbrev main_call0_v14 : Ref sig .tc := ⟨.hbm, 76, rfl⟩
abbrev main_v41 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_cst : Ref sig .tc := ⟨.hbm, 97, rfl⟩
abbrev main_call1_v14 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_cst_10 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_11 : Ref sig .tc := ⟨.hbm, 118, rfl⟩
abbrev main_v60 : Ref sig .tc := ⟨.hbm, 119, rfl⟩

abbrev nD : Nat := 1
abbrev τ : Topo := Topo.v7x

variable {F : FTy → Type} [FloatOps F]
-- ==== Proof.Spec.lean ====
/-
  What one tile of the SparseCore call computes, as plain functions of the codes it is given: the count of every code
  (`hist`), the counts of both halves of a batch row together (`both`), and the weight of every position (`prob`).
  Everything is stated over any float values `F`, with the operations in the order the kernel applies them.
-/
module

public import proofs.«01_k».proof.Defs
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic

variable {F : FTy → Type} [FloatOps F]

/-! ## Trips and lanes -/

theorem trips1 : k0_t1_loop.trips = 40 := by decide
theorem trips2 : k0_t2_loop.trips = 64 := by decide
theorem trips3 : k0_t3_loop.trips = 40 := by decide
theorem trips4 : k0_t4_loop.trips = 64 := by decide

/-- The sixteen lane numbers. -/
abbrev lanes : IVec S16 32 := iota .scVector S16 32 [0] iota_S16_d0_w32_scVector

/-- Lane `l` as an index of a vector of sixteen. -/
def lane (l : Fin 16) : S16.Idx := Shape.ofLane (d := S16.size) l

theorem lane_eq (x : S16.Idx) : lane (x 0) = x := by
  funext a
  rw [Subsingleton.elim a 0]
  rfl

/-- Trip `k` of the counting loop reads the first code of the positions `16k … 16k + 15`: word `2 (16k + lane)`. -/
theorem even_val (k : Fin k0_t2_loop.trips) (x : S16.Idx) :
    (k0_pay10 lanes k x).toNat = 32 * k.val + 2 * (x 0).val := by
  have h : ∀ (k : Fin k0_t2_loop.trips) (l : Fin 16),
      (k0_pay10 lanes k (lane l)).toNat = 32 * k.val + 2 * l.val := by decide +kernel
  have e := h k (x 0)
  rwa [lane_eq] at e

/-- … and the second code of the same positions: word `2 (16k + lane) + 1`. -/
theorem odd_val (k : Fin k0_t2_loop.trips) (x : S16.Idx) :
    (k0_pay11 lanes k x).toNat = 32 * k.val + 2 * (x 0).val + 1 := by
  have h : ∀ (k : Fin k0_t2_loop.trips) (l : Fin 16),
      (k0_pay11 lanes k (lane l)).toNat = 32 * k.val + 2 * l.val + 1 := by decide +kernel
  have e := h k (x 0)
  rwa [lane_eq] at e

/-- The weighting loop reads the same words as the counting loop. -/
theorem even_eq (k : Fin k0_t4_loop.trips) : k0_pay2 lanes 0#32 k = k0_pay10 lanes (k.cast (trips4.trans trips2.symm)) := rfl
theorem odd_eq (k : Fin k0_t4_loop.trips) : k0_pay3 lanes 0#32 k = k0_pay11 lanes (k.cast (trips4.trans trips2.symm)) := rfl

theorem even_ok (k : Fin k0_t2_loop.trips) : k0_chk1 (k0_pay10 lanes k) := by
  intro a x
  rw [Subsingleton.elim a 0]
  show (k0_pay10 lanes k x).toNat < 2048
  rw [even_val]
  have hk : k.val < 64 := trips2 ▸ k.isLt
  have hx : (x 0).val < 16 := (x 0).isLt
  omega

theorem odd_ok (k : Fin k0_t2_loop.trips) : k0_chk2 (k0_pay11 lanes k) := by
  intro a x
  rw [Subsingleton.elim a 0]
  show (k0_pay11 lanes k x).toNat < 2048
  rw [odd_val]
  have hk : k.val < 64 := trips2 ▸ k.isLt
  have hx : (x 0).val < 16 := (x 0).isLt
  omega

/-! ## The codes -/

/-- Every code of a tile's list is one of the 320. -/
def InRange (cd : Vec F S2048 .i32) : Prop := ∀ j, (show BitVec 32 from cd j).toNat < 320

/-- The first codes of the sixteen positions of trip `k`. -/
def codeX (cd : Vec F S2048 .i32) (k : Fin k0_t2_loop.trips) : Vec F S16 .i32 :=
  loadIdx cd ![k0_pay10 lanes k] (even_ok k)

/-- The second codes of the sixteen positions of trip `k`. -/
def codeY (cd : Vec F S2048 .i32) (k : Fin k0_t2_loop.trips) : Vec F S16 .i32 :=
  loadIdx cd ![k0_pay11 lanes k] (odd_ok k)

theorem codeX_ok {cd : Vec F S2048 .i32} (hc : InRange cd) (k : Fin k0_t2_loop.trips) : k0_chk3 (codeX cd k) := by
  intro a x
  rw [Subsingleton.elim a 0]
  exact lt_trans (hc _) (by decide)

theorem pay12_val (v : Vec F S16 .i32) (x : S16.Idx) (h : (show BitVec 32 from v x).toNat < 320) :
    (k0_pay12 v x).toNat = (show BitVec 32 from v x).toNat + 320 := by
  show ((show BitVec 32 from v x) + 320#32).toNat = _
  rw [BitVec.toNat_add]
  show (_ + 320) % 2 ^ 32 = _
  omega

theorem codeY_ok {cd : Vec F S2048 .i32} (hc : InRange cd) (k : Fin k0_t2_loop.trips) : k0_chk4 (k0_pay12 (codeY cd k)) := by
  intro a x
  rw [Subsingleton.elim a 0]
  show (k0_pay12 (codeY cd k) x).toNat < 640
  rw [pay12_val _ _ (hc _)]
  have := hc (idxAt ![k0_pay11 lanes k] (odd_ok k) x)
  show (show BitVec 32 from cd _).toNat + 320 < 640
  omega

/-! ## The counts -/

/-- Add one to the counter of every lane's code. -/
def bump (cnt : Vec F S640 .f32) (v : IVec S16 32) (h : k0_chk3 v) : Vec F S640 .f32 :=
  storeIdx cnt ![v] k0_pay7 (fun _ => 1#1) true h

/-- The counters after `n` trips over a list of codes: the first codes are counted in the first 320 counters, the second
    codes in the last 320. -/
def hist (cd : Vec F S2048 .i32) (hc : InRange cd) : ℕ → Vec F S640 .f32
  | 0 => fun _ => Scalar.ofBits .f32 0x00000000#32
  | n + 1 =>
    if h : n < k0_t2_loop.trips then
      bump (bump (hist cd hc n) (codeX cd ⟨n, h⟩) (codeX_ok hc _)) (k0_pay12 (codeY cd ⟨n, h⟩)) (codeY_ok hc _)
    else hist cd hc n

/-- The counters of both halves of a batch row, this tile's half first. -/
def both (own other : Vec F S640 .f32) : Vec F S640 .f32 := fun j => FloatOps.addf (own j) (other j)

/-- The sixteen weights written by trip `k`: one over the sum of the two counts of a position's codes. -/
def probs (cd : Vec F S2048 .i32) (hc : InRange cd) (cnt : Vec F S640 .f32) (k : Fin k0_t2_loop.trips) : FVec F S16 .f32 :=
  k0_pay5 k0_pay7 (loadIdx cnt ![codeX cd k] (codeX_ok hc k)) (loadIdx cnt ![k0_pay12 (codeY cd k)] (codeY_ok hc k))

/-- The trip that handles position `j`. -/
def tripOf (j : S1024.Idx) : Fin k0_t2_loop.trips :=
  ⟨(j 0).val / 16, by have h : (j 0).val < 1024 := (j 0).isLt; rw [trips2]; omega⟩

/-- The lane that handles position `j`. -/
def laneOf (j : S1024.Idx) : S16.Idx := lane ⟨(j 0).val % 16, Nat.mod_lt _ (by decide)⟩

/-- The weight of every position of a half batch row. -/
def prob (cd : Vec F S2048 .i32) (hc : InRange cd) (cnt : Vec F S640 .f32) : Vec F S1024 .f32 :=
  fun j => probs cd hc cnt (tripOf j) (laneOf j)

end Cert.Proof.Pool

end
-- ==== Proof.Setup.lean ====
/-
  The SparseCore call as a launch: the ghost state, the rows every tile owns, what the sixteen tiles of a SparseCore hand
  each other at the barrier, and what goes to a tile and comes back. `V0` is what the call finds in the array of codes.
-/
module

public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev coreOf (c : Fin ((K (F := F)).nCore 0)) : Fin τ.nSC := (K (F := F)).core 0 c
abbrev subOf (i : Fin ((K (F := F)).nSub 0)) : Fin τ.nSub := (K (F := F)).sub 0 i
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the pipeline's rounds, the transfers' counters -/

abbrev UH : Type := URounds (GSem nD τ sig) ℕ
abbrev UB : Type := URounds (GSem nD τ sig) ℕ
abbrev UP : Type := URounds (GSem nD τ sig) Unit
abbrev UU : Type := UH × (UB × (UP × Counters))

abbrev MM (F : FTy → Type) := MT nD τ sig (HIx 1) (Elt F) ℕ UU ℕ

abbrev EH : Emb UH (MM F) := embL
/-- The barrier cells' rounds library. -/
def EB : Emb UB (MM F) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB (MM F)).LandsIn (upEmb : UEmb _ (MM F)) := by unfold EB; infer_instance
/-- The pipeline's rounds library. -/
def EP : Emb UP (MM F) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 1) (Val := Elt F) (Name := ℕ) (U := UU) (Lvl := ℕ)).toEmb
instance EP_landsIn : (EP : Emb UP (MM F)).LandsIn (upEmb : UEmb _ (MM F)) := by unfold EP; infer_instance

/-! ## Arrays, scratch buffers and tiles -/

abbrev v0Loc (d : Dev nD) : Loc nD τ sig := (SparseCore.T d).loc main_v0
abbrev v1Loc (d : Dev nD) : Loc nD τ sig := (SparseCore.T d).loc main_v1

/-- The codes, the weights, a tile's four scratch buffers (its codes, its counters, its weights, its mate's counters), and
    the SparseCore's shared scratch, as a tile addresses them. -/
abbrev v0V : Memref sig .scVector .hbm S16x4096 .i32 := Memref.whole main_v0_scv
abbrev v1V : Memref sig .scVector .hbm S16x2x1024 .f32 := Memref.whole main_v1_scv
abbrev cdV : Memref sig .scVector .vmem S2048 .i32 := Memref.whole cc0_scratch0
abbrev cnV : Memref sig .scVector .vmem S640 .f32 := Memref.whole cc0_scratch1
abbrev prV : Memref sig .scVector .vmem S1024 .f32 := Memref.whole cc0_scratch2
abbrev otV : Memref sig .scVector .vmem S640 .f32 := Memref.whole cc0_scratch3
abbrev shV : Memref sig .scVector .shared S16x640 .f32 := Memref.whole cc0_scratch4

abbrev shRef (c : Fin τ.nSC) : DevRef τ sig := (Proc.scVector c ⟨0, by decide⟩).devRef cc0_scratch4
abbrev shLoc (d : Dev nD) (c : Fin τ.nSC) : Loc nD τ sig := (d, shRef c)

theorem bound_zero : grid0.bound 0 = 2 := rfl
theorem bound_one : grid0.bound 1 = 16 := rfl
theorem nSC_eq : τ.nSC = 2 := rfl
theorem nSub_eq : τ.nSub = 16 := rfl

/-- The grid point of a core and a subcore number. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : coordsV (L 0) (L 1) = L := by
  funext a
  match a with
  | 0 => rfl
  | 1 => rfl

/-- The grid point of tile `(c, i)`. -/
abbrev crd (c : Fin τ.nSC) (i : Fin τ.nSub) : grid0.Coords := coordsV (Fin.cast nSC_eq c) (Fin.cast nSub_eq i)
abbrev cV (L : grid0.Coords) : Fin τ.nSC := (L 0).castLE hcore0
abbrev jV (L : grid0.Coords) : Fin τ.nSub := (L 1).castLE hsub0

theorem crd_eta (L : grid0.Coords) : crd (cV L) (jV L) = L := coordsV_eta L

set_option backward.proofsInPublic true in
/-- The tile that counts the other half of the same batch row: the neighbour in the pair. -/
def mate (i : Fin τ.nSub) : Fin τ.nSub := ⟨i.val + 1 - 2 * (i.val % 2), by have h : i.val < 16 := i.isLt; show _ < 16; omega⟩
theorem mate_mate (i : Fin τ.nSub) : mate (mate i) = i := by
  apply Fin.ext; simp only [mate]; omega
/-- Being mates is a permutation of the tiles. -/
def mateEquiv : Fin τ.nSub ≃ Fin τ.nSub where
  toFun := mate
  invFun := mate
  left_inv := mate_mate
  right_inv := mate_mate

/-- The mate's grid point. -/
abbrev mateL (L : grid0.Coords) : grid0.Coords := crd (cV L) (mate (jV L))
theorem mateL_crd (c : Fin τ.nSC) (i : Fin τ.nSub) : mateL (crd c i) = crd c (mate i) := rfl

/-! ## The rows of a tile -/

abbrev rowR1 (L : grid0.Coords) : Rect S16x4096 := Rect.unit (s := S16x4096) (k0_off1 L) S1x2048.size (k0_off1_inb L)
abbrev rowR3 (L : grid0.Coords) : Rect S16x640 := Rect.unit (s := S16x640) (k0_off3 L) S1x640.size (k0_off3_inb L)
abbrev rowR4 (L : grid0.Coords) : Rect S16x640 := Rect.unit (s := S16x640) (k0_off4 L) S1x640.size (k0_off4_inb L)
abbrev rowR7 (L : grid0.Coords) : Rect S16x2x1024 := Rect.unit (s := S16x2x1024) (k0_off7 L) S1x1x1024.size (k0_off7_inb L)

/-- A tile's half row of codes, its row and its mate's row of the shared scratch, its half row of weights. -/
abbrev v0RowK (L : grid0.Coords) : Memref sig .scVector .hbm S2048 .i32 := ((v0V).slice (rowR1 L) (fun _ => rfl)).squeeze S2048 squeezes_S1x2048_S2048
abbrev shRowK (L : grid0.Coords) : Memref sig .scVector .shared S640 .f32 := ((shV).slice (rowR3 L) (fun _ => rfl)).squeeze S640 squeezes_S1x640_S640
abbrev shRowK2 (L : grid0.Coords) : Memref sig .scVector .shared S640 .f32 := ((shV).slice (rowR4 L) (fun _ => rfl)).squeeze S640 squeezes_S1x640_S640
abbrev v1RowK (L : grid0.Coords) : Memref sig .scVector .hbm S1024 .f32 := ((v1V).slice (rowR7 L) (fun _ => rfl)).squeeze S1024 squeezes_S1x1x1024_S1024

theorem off1_eq (L : grid0.Coords) : k0_off1 L = ![8 * (L 0).val + (L 1).val / 2, 2048 * ((L 1).val % 2)] := by
  have h : ∀ (c : Fin (grid0.bound 0)) (s : Fin (grid0.bound 1)), k0_off1 (coordsV c s) = ![8 * c.val + s.val / 2, 2048 * (s.val % 2)] := by decide +kernel
  rw [← coordsV_eta L]; exact h _ _
theorem off7_eq (L : grid0.Coords) : k0_off7 L = ![8 * (L 0).val + (L 1).val / 2, (L 1).val % 2, 0] := by
  have h : ∀ (c : Fin (grid0.bound 0)) (s : Fin (grid0.bound 1)), k0_off7 (coordsV c s) = ![8 * c.val + s.val / 2, s.val % 2, 0] := by decide +kernel
  rw [← coordsV_eta L]; exact h _ _
theorem off4_eq (L : grid0.Coords) : k0_off4 L = k0_off3 (mateL L) := by
  have h : ∀ (c : Fin (grid0.bound 0)) (s : Fin (grid0.bound 1)), k0_off4 (coordsV c s) = k0_off3 (mateL (coordsV c s)) := by decide +kernel
  rw [← coordsV_eta L]; exact h _ _

theorem rowR4_eq (L : grid0.Coords) : rowR4 L = rowR3 (mateL L) := by
  unfold rowR4 rowR3
  congr 1
  exact off4_eq L

theorem shRowK2_eq (L : grid0.Coords) : shRowK2 L = shRowK (mateL L) := by
  have h : ∀ (r r' : Rect S16x640) (hs : ∀ a, r.stride a = 1) (hs' : ∀ a, r'.stride a = 1) (e : r = r')
      (hq : r.shape.Squeezes S640) (hq' : r'.shape.Squeezes S640),
      ((shV).slice r hs).squeeze S640 hq = ((shV).slice r' hs').squeeze S640 hq' := by
    intro r r' hs hs' e hq hq'; subst e; rfl
  exact h _ _ _ _ (rowR4_eq L) _ _

/-! Where a row's elements lie in its array. -/

theorem v0_emb (L : grid0.Coords) (j : S2048.Idx) :
    ((v0RowK L).view.emb j 0).val = 8 * (L 0).val + (L 1).val / 2 ∧ ((v0RowK L).view.emb j 1).val = 2048 * ((L 1).val % 2) + (j 0).val := by
  have e : (v0RowK L).view.emb j = (rowR1 L).emb (Shape.reshapeEquiv squeezes_S1x2048_S2048.numel_eq j) := rfl
  have r : Shape.reshapeEquiv squeezes_S1x2048_S2048.numel_eq j = Fin.cons ⟨0, Nat.one_pos⟩ j := Shape.reshapeEquiv_cons_one (d := S2048.size) _ j
  rw [e, r, Rect.emb_apply, Rect.emb_apply]
  show k0_off1 L 0 + 1 * 0 = _ ∧ k0_off1 L 1 + 1 * (j 0).val = _
  rw [off1_eq]
  exact ⟨by simp, by simp⟩

theorem sh_emb (L : grid0.Coords) (j : S640.Idx) :
    ((shRowK L).view.emb j 0).val = (L 1).val ∧ ((shRowK L).view.emb j 1).val = (j 0).val := by
  have e : (shRowK L).view.emb j = (rowR3 L).emb (Shape.reshapeEquiv squeezes_S1x640_S640.numel_eq j) := rfl
  have r : Shape.reshapeEquiv squeezes_S1x640_S640.numel_eq j = Fin.cons ⟨0, Nat.one_pos⟩ j := Shape.reshapeEquiv_cons_one (d := S640.size) _ j
  rw [e, r, Rect.emb_apply, Rect.emb_apply]
  show k0_off3 L 0 + 1 * 0 = _ ∧ k0_off3 L 1 + 1 * (j 0).val = _
  rw [k0_off3_eq]
  exact ⟨by simp, by simp⟩

theorem v1_emb (L : grid0.Coords) (j : S1024.Idx) :
    ((v1RowK L).view.emb j 0).val = 8 * (L 0).val + (L 1).val / 2 ∧ ((v1RowK L).view.emb j 1).val = (L 1).val % 2
      ∧ ((v1RowK L).view.emb j 2).val = (j 0).val := by
  have e : (v1RowK L).view.emb j = (rowR7 L).emb (Shape.reshapeEquiv squeezes_S1x1x1024_S1024.numel_eq j) := rfl
  have r : Shape.reshapeEquiv squeezes_S1x1x1024_S1024.numel_eq j = Fin.cons ⟨0, Nat.one_pos⟩ (Fin.cons ⟨0, Nat.one_pos⟩ j) := by
    have h1 : S1x1024.numel = S1x1x1024.numel := by decide
    have h2 : S1024.numel = S1x1024.numel := by decide
    rw [← Shape.reshapeEquiv_reshapeEquiv h1 h2, Shape.reshapeEquiv_cons_one (d := S1024.size) h2 j]
    exact Shape.reshapeEquiv_cons_one (d := S1x1024.size) h1 _
  rw [e, r, Rect.emb_apply, Rect.emb_apply, Rect.emb_apply]
  show k0_off7 L 0 + 1 * 0 = _ ∧ k0_off7 L 1 + 1 * 0 = _ ∧ k0_off7 L 2 + 1 * (j 0).val = _
  rw [off7_eq]
  exact ⟨by simp, by simp, by simp⟩

/-! ## The values the tiles compute from the codes -/

section Values

/-- A number as an index of a vector of that length. -/
def at640 (k : Fin 640) : S640.Idx := Shape.ofLane (d := S640.size) k
def at1024 (k : Fin 1024) : S1024.Idx := Shape.ofLane (d := S1024.size) k
theorem at640_eq (j : S640.Idx) : at640 (j 0) = j := by
  funext a
  rw [Subsingleton.elim a 0]
  rfl
theorem at1024_eq (j : S1024.Idx) : at1024 (j 0) = j := by
  funext a
  rw [Subsingleton.elim a 0]
  rfl

variable (V0 : Dev nD → Vec F S16x4096 .i32)

/-- Every code in the array is one of the 320. -/
def AllInRange : Prop := ∀ d j, (show BitVec 32 from V0 d j).toNat < 320

variable (hV : AllInRange V0)

/-- The codes of one tile. -/
def codes (d : Dev nD) (L : grid0.Coords) : Vec F S2048 .i32 := (v0RowK L).view.read (Elt F) (V0 d)

include hV in
theorem codes_ok (d : Dev nD) (L : grid0.Coords) : InRange (codes V0 d L) := fun _ => hV _ _

/-- One tile's counters, over its own half row. -/
def cnt (d : Dev nD) (L : grid0.Coords) : Vec F S640 .f32 := hist (codes V0 d L) (codes_ok V0 hV d L) 64

/-- The shared scratch of a SparseCore when the barrier is passed: row `i` holds tile `i`'s counters. -/
def shVal (d : Dev nD) (c : Fin τ.nSC) : Vec F S16x640 .f32 :=
  fun i => cnt V0 hV d (crd c (Fin.cast nSub_eq.symm (i 0))) (at640 (i 1))

/-- The weights one tile writes. -/
def wts (d : Dev nD) (L : grid0.Coords) : Vec F S1024 .f32 :=
  prob (codes V0 d L) (codes_ok V0 hV d L) (both (cnt V0 hV d L) (cnt V0 hV d (mateL L)))

/-- The tile that writes batch row `b`'s half `h`. -/
def tileOf (b : Fin 16) (h : Fin 2) : grid0.Coords :=
  coordsV (⟨b.val / 8, by rw [bound_zero]; omega⟩) (⟨2 * (b.val % 8) + h.val, by rw [bound_one]; omega⟩)

/-- The array of weights after the SparseCore call. -/
def wtsAll (d : Dev nD) : Vec F S16x2x1024 .f32 := fun j => wts V0 hV d (tileOf (j 0) (j 1)) (at1024 (j 2))

/-- Reading a tile's row of the shared scratch gives its counters. -/
theorem shVal_emb (d : Dev nD) (L : grid0.Coords) (j : S640.Idx) :
    shVal V0 hV d (cV L) ((shRowK L).view.emb j) = cnt V0 hV d L j := by
  obtain ⟨h0, h1⟩ := sh_emb L j
  unfold shVal
  have e0 : crd (cV L) (Fin.cast nSub_eq.symm ((shRowK L).view.emb j 0)) = L := by
    rw [show (Fin.cast nSub_eq.symm ((shRowK L).view.emb j 0) : Fin τ.nSub) = jV L from Fin.ext h0]
    exact crd_eta L
  have e1 : at640 ((shRowK L).view.emb j 1) = j := by
    rw [show ((shRowK L).view.emb j 1 : Fin 640) = j 0 from Fin.ext h1]
    exact at640_eq j
  rw [e0, e1]

/-- Reading a tile's half row of the array of weights gives its weights. -/
theorem wtsAll_emb (d : Dev nD) (L : grid0.Coords) (j : S1024.Idx) :
    wtsAll V0 hV d ((v1RowK L).view.emb j) = wts V0 hV d L j := by
  obtain ⟨h0, h1, h2⟩ := v1_emb L j
  have hL0 : (L 0).val < 2 := (L 0).isLt
  have hL1 : (L 1).val < 16 := (L 1).isLt
  unfold wtsAll
  have e0 : tileOf ((v1RowK L).view.emb j 0) ((v1RowK L).view.emb j 1) = L := by
    conv_rhs => rw [← coordsV_eta L]
    unfold tileOf
    congr 1
    · apply Fin.ext; show ((v1RowK L).view.emb j 0).val / 8 = _; rw [h0]; omega
    · apply Fin.ext; show 2 * (((v1RowK L).view.emb j 0).val % 8) + ((v1RowK L).view.emb j 1).val = _; rw [h0, h1]; omega
  have e1 : at1024 ((v1RowK L).view.emb j 2) = j := by
    rw [show ((v1RowK L).view.emb j 2 : Fin 1024) = j 0 from Fin.ext h2]
    exact at1024_eq j
  rw [e0, e1]

end Values

/-! ## The barrier cells -/

/-- Tile `(c, j)`'s barrier semaphore on device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

section Barrier

variable (V0 : Dev nD → Vec F S16x4096 .i32) (hV : AllInRange V0)

/-- Row `i` of SparseCore `c`'s shared scratch at contents `f`. -/
abbrev shPts (d : Dev nD) (c : Fin τ.nSC) (i : Fin τ.nSub) (f : Buf (Elt F) (shLoc d c)) : sProp (MM F) :=
  shLoc d c ↦[(shRowK (crd c i)).view.set]{fullShare} f

/-- What a duty in tile `j`'s round hands over: its mate's, the mate's row of the shared scratch holding the mate's
    counters; the others', nothing. -/
def bPay (g : GSem nD τ sig) (n : ℕ) : sProp (MM F) :=
  match g with
  | ((d, .scVector c j), _) => if n = (mate j).val then shPts d c (mate j) (shVal V0 hV d c) else iprop(emp)
  | _ => iprop(emp)

/-- The barrier cells' schedule: one round on each, of one unit duty per tile of the SparseCore (named by its number). -/
def bRd : Rounds.Schedule (GSem nD τ sig) ℕ (MM F) where
  duties g r := if isBar g ∧ r = 0 then (Finset.univ : Finset (Fin τ.nSub)).image Fin.val else ∅
  amount _ _ _ := 1
  payload g _ n := bPay V0 hV g n
  amount_pos _ _ _ _ := Nat.one_pos

instance bRd_payload_storable (g : GSem nD τ sig) (r n : ℕ) : BI.Storable (upEmb : UEmb _ (MM F)) ((bRd V0 hV).payload g r n) := by
  show BI.Storable upEmb (bPay V0 hV g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp (MM F)) := bigSep_emp_const s

theorem bRd_duties₀ (d : Dev nD) (c : Fin τ.nSC) (j : Fin τ.nSub) : (bRd V0 hV).duties (bcell d c j) 0 = (Finset.univ : Finset (Fin τ.nSub)).image Fin.val := by
  simp [bRd, isBar]
theorem bRd_duties_succ (g : GSem nD τ sig) (r : ℕ) (hr : 1 ≤ r) : (bRd V0 hV).duties g r = ∅ :=
  if_neg fun h => absurd h.2 (Nat.ne_of_gt hr)
theorem bRd_mem₀ (d : Dev nD) (c : Fin τ.nSC) (j i : Fin τ.nSub) : i.val ∈ (bRd V0 hV).duties (bcell d c j) 0 := by
  rw [bRd_duties₀]; exact Finset.mem_image_of_mem _ (Finset.mem_univ i)
theorem bRd_expect (d : Dev nD) (c : Fin τ.nSC) (j : Fin τ.nSub) : 0 + grid0.bound 1 = (bRd V0 hV).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

end Barrier

/-- What a tile of SparseCore `c` owes for the barrier: a unit on every tile's cell of its SparseCore. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## What the handshakes carry -/

section Payloads

variable (V0 : Dev nD → Vec F S16x4096 .i32) (hV : AllInRange V0)

/-- Tile `(c, i)`'s barrier kit: the cell invariants of its SparseCore and that each has reached round 0, its own position
    in round 0, its duty token in every tile's round, and the credit for the sixteen units of its own round. -/
def bkit (d : Dev nD) (c : Fin τ.nSC) (i : Fin τ.nSub) : sProp (MM F) :=
  iprop((∃ κ : GSem nD τ sig → ℕ, bigSep Finset.univ fun j : Fin (grid0.bound 1) =>
      cellInv EB (bRd V0 hV) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-- A tile's half row of codes; its half row of weights at contents `f`. -/
abbrev v0Pts (d : Dev nD) (c : Fin τ.nSC) (i : Fin τ.nSub) : sProp (MM F) := v0Loc d ↦[(v0RowK (crd c i)).view.set]{fullShare} V0 d
abbrev v1Pts (d : Dev nD) (c : Fin τ.nSC) (i : Fin τ.nSub) (f : Vec F S16x2x1024 .f32) : sProp (MM F) := v1Loc d ↦[(v1RowK (crd c i)).view.set]{fullShare} f

/-- What a tile is sent off with, beside its row of the shared scratch, and what it brings back: its codes, and its half
    row of weights, first at anything, then at the weights. -/
abbrev goPts (d : Dev nD) (c : Fin τ.nSC) (i : Fin τ.nSub) : sProp (MM F) := iprop(v0Pts V0 d c i ∗ ∃ f, v1Pts d c i f)
abbrev tdPts (d : Dev nD) (c : Fin τ.nSC) (i : Fin τ.nSub) : sProp (MM F) := iprop(v0Pts V0 d c i ∗ v1Pts d c i (wtsAll V0 hV d))
abbrev bar0 (d : Dev nD) (c : Fin τ.nSC) (i : Fin τ.nSub) : sProp (MM F) := semVal (bcell d c i) 0

set_option backward.proofsInPublic true in
/-- The call takes the array of codes and the array of weights, dealt by tiles; each tile its rows of both and of its
    sequencer's shared scratch, and brings back its rows and its mate's row of the shared scratch, with its barrier
    semaphore at zero; each tile's proof consumes its barrier kit, and each tile owes its arrivals. -/
def P : (K (F := F)).Pay (nD := nD) (Val := Elt F) (Name := ℕ) (U := UU) where
  st := fun q d c => match q with | 0 => bigSep Finset.univ fun i : Fin ((K (F := F)).nSub 0) => goPts V0 d (coreOf c) (subOf i)
  dn := fun q d c => match q with | 0 => iprop((bigSep Finset.univ fun i : Fin ((K (F := F)).nSub 0) => tdPts V0 hV d (coreOf c) (subOf i))
      ∗ (bigSep Finset.univ fun i : Fin ((K (F := F)).nSub 0) => bar0 d (coreOf c) (subOf i)))
  go := fun q d c i => match q with
    | 0 => iprop(goPts V0 d (coreOf c) (subOf i) ∗ ∃ f, shPts d (coreOf c) (subOf i) f)
  td := fun q d c i => match q with
    | 0 => iprop((tdPts V0 hV d (coreOf c) (subOf i) ∗ ∃ f, shPts d (coreOf c) (mate (subOf i)) f) ∗ bar0 d (coreOf c) (subOf i))
  x := fun _ thr => match thr with
    | (d, .scVector c i) => bkit V0 hV d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P V0 hV).IsStorable where
  st q d c := match q with
    | 0 => (inferInstance : BI.Storable (upEmb : UEmb _ (MM F)) (bigSep Finset.univ fun i : Fin ((K (F := F)).nSub 0) => goPts V0 d (coreOf c) (subOf i)))
  dn q d c := match q with
    | 0 => (inferInstance : BI.Storable (upEmb : UEmb _ (MM F)) iprop((bigSep Finset.univ fun i : Fin ((K (F := F)).nSub 0) => tdPts V0 hV d (coreOf c) (subOf i))
      ∗ (bigSep Finset.univ fun i : Fin ((K (F := F)).nSub 0) => bar0 d (coreOf c) (subOf i))))
  go q d c i := match q with
    | 0 => (inferInstance : BI.Storable (upEmb : UEmb _ (MM F)) iprop(goPts V0 d (coreOf c) (subOf i) ∗ ∃ f, shPts d (coreOf c) (subOf i) f))
  td q d c i := match q with
    | 0 => (inferInstance : BI.Storable (upEmb : UEmb _ (MM F))
      iprop((tdPts V0 hV d (coreOf c) (subOf i) ∗ ∃ f, shPts d (coreOf c) (mate (subOf i)) f) ∗ bar0 d (coreOf c) (subOf i)))

end Payloads

end Cert.Proof.Pool

end
-- ==== Proof.Loops.lean ====
/-
  The four counted loops of a tile, each from the scratch buffers it is entered with to what it leaves in them: clearing
  the counters, counting the codes, adding the mate's counters, computing the weights.
-/
module

public import proofs.«01_k».proof.Proof.Setup
public import Idealize.ShloMosaic.Lib.VecWindow
public import Idealize.ShloMosaic.Lib.WritesUnit

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Loops

variable (d : Dev nD) (L : grid0.Coords)

/-- The tile's thread. -/
abbrev thr : Thread nD τ := V d (cV L) (jV L)

/-- The tile's scratch buffers: its codes, its counters, its weights, its mate's counters. -/
abbrev cdPts (f : Vec F S2048 .i32) : sProp (MM F) := (cdV).view.loc (thr d L) ↦{fullShare} f
abbrev cnPts (f : Vec F S640 .f32) : sProp (MM F) := (cnV).view.loc (thr d L) ↦{fullShare} f
abbrev prPts (f : Vec F S1024 .f32) : sProp (MM F) := (prV).view.loc (thr d L) ↦{fullShare} f
abbrev otPts (f : Vec F S640 .f32) : sProp (MM F) := (otV).view.loc (thr d L) ↦{fullShare} f

section Stores

variable {n : ℕ} {e : EltTy} {κ : Kind} {sp : Space} (m : Memref sig κ sp (⟨1, ![n]⟩ : Shape) e) (f : m.view.ty.Contents (Elt F))
  {off : Fin 1 → ℕ} (inb : ∀ a, off a + S16.size a ≤ (⟨1, ![n]⟩ : Shape).size a)
  (w : (Rect.unit (s := (⟨1, ![n]⟩ : Shape)) off S16.size inb).shape.Idx → Elt F e) (y : (⟨1, ![n]⟩ : Shape).Idx)

omit [FloatOps F] in
/-- A store of sixteen elements at `o` of a vector, read at one of them: the element stored. -/
theorem stored_mem (o : ℕ) (ho : off = ![o]) (l : Fin 16) (hy : (y 0).val = o + l.val) :
    m.view.read (Elt F) (m.view.writes (Elt F) f [⟨Rect.unit off S16.size inb, w⟩]) y = w (lane l) :=
  View.read_writes_cons_unit_of_mem m.view f inb w [] y (lane l) ho fun a => by
    rw [Subsingleton.elim a 0]; exact hy

omit [FloatOps F] in
/-- … and read elsewhere: what was there. -/
theorem stored_not_mem (o : ℕ) (ho : off = ![o]) (hy : (y 0).val < o ∨ o + 16 ≤ (y 0).val) :
    m.view.read (Elt F) (m.view.writes (Elt F) f [⟨Rect.unit off S16.size inb, w⟩]) y = m.view.read (Elt F) f y :=
  View.read_writes_cons_unit_of_not_mem m.view f inb w [] y ho 0 hy

omit [FloatOps F] in
/-- A load of sixteen elements at `o`, at one of its lanes. -/
theorem loaded (o : ℕ) (ho : off = ![o]) (l : Fin 16) (hy : (y 0).val = o + l.val) :
    m.view.readAt (Elt F) (Rect.unit (s := (⟨1, ![n]⟩ : Shape)) off S16.size inb).toLoadRect f (lane l) = m.view.read (Elt F) f y := by
  subst ho
  have e : (Rect.unit (s := (⟨1, ![n]⟩ : Shape)) ![o] S16.size inb).emb (lane l) = y := funext fun a => Fin.ext (by
    rw [Subsingleton.elim a 0]
    show o + 1 * l.val = (y 0).val
    omega)
  rw [← e]
  rfl

end Stores

/-! ## Clearing the counters -/

abbrev zeros : Vec F S640 .f32 := fun _ => Scalar.ofBits .f32 0x00000000#32

/-- Before trip `k` the first `16k` counters are zero. -/
def inv1 (k : ℕ) (_ : PUnit) : sProp (MM F) :=
  iprop(∃ f : Vec F S640 .f32, cnPts d L f ∗ ⌜∀ j : S640.Idx, (j 0).val < 16 * k → f j = Scalar.ofBits .f32 0x00000000#32⌝)

set_option maxHeartbeats 1000000 in
theorem loop1 (arg1 v26 : BitVec 32) (v30 : IVec S16 32) (v31 : FVec F S16 .f32) (f : Vec F S640 .f32)
    {α : Type} (k : PUnit → Prog (TpuEff nD τ sig (Elt F) Λ₀ (thr d L).2) α) (Q : α → sProp (MM F)) :
    iprop(cnPts d L f ∗ (cnPts d L zeros -∗ wp frame (wpE (defs₀ (F := F)) 𝒱₀ (thr d L) none) Set.univ (k ⟨⟩) Q))
      ⊢ wp frame (wpE (defs₀ (F := F)) 𝒱₀ (thr d L) none) Set.univ
          (Scf.Loop.for k0_t1_loop k0_t1_ok ⟨⟩ (k0_t1_body L v0V (Memref.isWhole_whole _) v1V (Memref.isWhole_whole _) cdV (Memref.isWhole_whole _) cnV (Memref.isWhole_whole _)
            prV (Memref.isWhole_whole _) otV (Memref.isWhole_whole _) shV (Memref.isWhole_whole _) cc0_scoped0 cc0_scoped1 cc0_scoped2 cc0_scoped3 arg1 v26 v30 v31) >>= k) Q := by
  iintro ⟨H, Hk⟩
  sl_for (inv1 d L) $$ [H]
  case region =>
    intro k _
    unfold inv1
    iintro ⟨%f, H, %hf⟩
    unfold loop1.sl.prog.body_1 k0_t1_body
    sl_exec
    sl_step
    iexists _
    isplitl; · iexact H
    ipureintro; intro j hj
    have hk : k.val < 40 := lt_of_lt_of_eq k.isLt trips1
    rcases lt_or_ge (j 0).val (16 * k.val) with h | h
    · exact (stored_not_mem cnV f (k0_off2_inb k) k0_pay8 j (16 * k.val) (k0_off2_eq k) (.inl h)).trans (hf j h)
    · exact stored_mem cnV f (k0_off2_inb k) k0_pay8 j (16 * k.val) (k0_off2_eq k) ⟨(j 0).val - 16 * k.val, by omega⟩ (by show _ = _ + (_ - _); omega)
  · unfold inv1
    iexists f
    isplitl; · iexact H
    ipureintro; intro j hj; omega
  iintro %_ HI
  unfold inv1
  icases HI with ⟨%f, H, %hf⟩
  iapply Hk
  rw [show (zeros : Vec F S640 .f32) = f from funext fun j => (hf j (by
    have h : (j 0).val < 640 := (j 0).isLt
    show (j 0).val < 16 * k0_t1_loop.trips
    rw [trips1]; omega)).symm]
  iexact H

/-! ## Reading and adding at indices -/

theorem gather_cd (f : Vec F S2048 .i32) {idxs : Fin 1 → IVec S16 32} {h : ∀ a x, (idxs a x).toNat < S2048.size a} {hl : (cdV).view.Loads}
    {α : Type} (k : Vec F S16 .i32 → Prog (TpuEff nD τ sig (Elt F) Λ₀ (thr d L).2) α) (Q : α → sProp (MM F)) :
    (cdPts d L f) ⊢ iprop((cdPts d L f -∗ wp frame (wpE (defs₀ (F := F)) 𝒱₀ (thr d L) none) Set.univ (k (loadIdx f idxs h)) Q)
      -∗ wp frame (wpE (defs₀ (F := F)) 𝒱₀ (thr d L) none) Set.univ (SparseCore.vectorLoadIdx cdV idxs h hl >>= k) Q) := by
  have w := SparseCore.wp_vectorLoadIdx (defs := defs₀ (F := F)) 𝒱₀ (thr d L) none Set.univ (Q := Q) (base := cdV) (idxs := idxs) (h := h) (hl := hl) (k := k)
    (S := Finset.univ) (q := fullShare) (f := f) (Finset.subset_univ _)
  rw [show ((cdV).access (.whole S2048)).read (Elt F) f = f from Memref.read_access_whole (Elt F) (cc0_scratch0 : Ref sig .scVector) f] at w
  exact w

theorem gather_cn (f : Vec F S640 .f32) {idxs : Fin 1 → IVec S16 32} {h : ∀ a x, (idxs a x).toNat < S640.size a} {hl : (cnV).view.Loads}
    {α : Type} (k : Vec F S16 .f32 → Prog (TpuEff nD τ sig (Elt F) Λ₀ (thr d L).2) α) (Q : α → sProp (MM F)) :
    (cnPts d L f) ⊢ iprop((cnPts d L f -∗ wp frame (wpE (defs₀ (F := F)) 𝒱₀ (thr d L) none) Set.univ (k (loadIdx f idxs h)) Q)
      -∗ wp frame (wpE (defs₀ (F := F)) 𝒱₀ (thr d L) none) Set.univ (SparseCore.vectorLoadIdx cnV idxs h hl >>= k) Q) := by
  have w := SparseCore.wp_vectorLoadIdx (defs := defs₀ (F := F)) 𝒱₀ (thr d L) none Set.univ (Q := Q) (base := cnV) (idxs := idxs) (h := h) (hl := hl) (k := k)
    (S := Finset.univ) (q := fullShare) (f := f) (Finset.subset_univ _)
  rw [show ((cnV).access (.whole S640)).read (Elt F) f = f from Memref.read_access_whole (Elt F) (cc0_scratch1 : Ref sig .scVector) f] at w
  exact w

theorem scatter_cn (f : Vec F S640 .f32) {idxs : Fin 1 → IVec S16 32} {v : Vec F S16 .f32} {mask : IVec S16 1} {add : Bool}
    {h : ∀ a x, (idxs a x).toNat < S640.size a} {hs : ((cnV).access (.whole S640)).Stores Finset.univ}
    {α : Type} (k : PUnit → Prog (TpuEff nD τ sig (Elt F) Λ₀ (thr d L).2) α) (Q : α → sProp (MM F)) :
    (cnPts d L f) ⊢ iprop((cnPts d L (storeIdx f idxs v mask add h) -∗ wp frame (wpE (defs₀ (F := F)) 𝒱₀ (thr d L) none) Set.univ (k ⟨⟩) Q)
      -∗ wp frame (wpE (defs₀ (F := F)) 𝒱₀ (thr d L) none) Set.univ (SparseCore.vectorStoreIdx cnV idxs v mask add h hs >>= k) Q) := by
  have e : ∀ g : Vec F S640 .f32, (((cnV).access (.whole S640)).loc (thr d L) ↦[((cnV).access (.whole S640)).set]{fullShare} g : sProp (MM F)) = cnPts d L g := by
    intro g
    rw [show ((cnV).access (.whole S640)).set = Finset.univ from Memref.set_access_whole (cc0_scratch1 : Ref sig .scVector)]
  have w := SparseCore.wp_vectorStoreIdx (defs := defs₀ (F := F)) 𝒱₀ (thr d L) none Set.univ (Q := Q) (base := cnV) (idxs := idxs) (v := v) (mask := mask) (add := add)
    (h := h) (hs := hs) (k := k) (f := f)
  rw [e, e, show ((cnV).access (.whole S640)).write (Elt F) f (storeIdx (((cnV).access (.whole S640)).read (Elt F) f) idxs v mask add h) Finset.univ
    = storeIdx f idxs v mask add h from (Memref.write_access_whole_univ (Elt F) (cc0_scratch1 : Ref sig .scVector) _ _).trans
      (by rw [show ((cnV).access (.whole S640)).read (Elt F) f = f from Memref.read_access_whole (Elt F) (cc0_scratch1 : Ref sig .scVector) f])] at w
  exact w

/-! ## Counting the codes -/

variable (cd : Vec F S2048 .i32) (hc : InRange cd)

def inv2 (k : ℕ) (_ : PUnit) : sProp (MM F) := iprop(cdPts d L cd ∗ cnPts d L (hist cd hc k))

set_option maxHeartbeats 1000000 in
theorem loop2 (arg1 v26 : BitVec 32)
    {α : Type} (k : PUnit → Prog (TpuEff nD τ sig (Elt F) Λ₀ (thr d L).2) α) (Q : α → sProp (MM F)) :
    iprop((cdPts d L cd ∗ cnPts d L zeros) ∗ ((cdPts d L cd ∗ cnPts d L (hist cd hc 64)) -∗ wp frame (wpE (defs₀ (F := F)) 𝒱₀ (thr d L) none) Set.univ (k ⟨⟩) Q))
      ⊢ wp frame (wpE (defs₀ (F := F)) 𝒱₀ (thr d L) none) Set.univ
          (Scf.Loop.for k0_t2_loop k0_t2_ok ⟨⟩ (k0_t2_body L v0V (Memref.isWhole_whole _) v1V (Memref.isWhole_whole _) cdV (Memref.isWhole_whole _) cnV (Memref.isWhole_whole _)
            prV (Memref.isWhole_whole _) otV (Memref.isWhole_whole _) shV (Memref.isWhole_whole _) cc0_scoped0 cc0_scoped1 cc0_scoped2 cc0_scoped3 arg1 v26 lanes k0_pay7) >>= k) Q := by
  iintro ⟨⟨Hcd, Hcn⟩, Hk⟩
  sl_for (inv2 d L cd hc) $$ [Hcd Hcn]
  case region =>
    intro k _
    unfold inv2
    iintro ⟨Hcd, Hcn⟩
    unfold loop2.sl.prog.body_1 k0_t2_body
    have h1 := even_ok k
    have h2 := odd_ok k
    have h3 : k0_chk3 (loadIdx cd ![k0_pay10 lanes k] (even_ok k)) := codeX_ok hc k
    have h4 : k0_chk4 (k0_pay12 (loadIdx cd ![k0_pay11 lanes k] (odd_ok k))) := codeY_ok hc k
    sl_exec
    iapply (gather_cd d L cd) $$ Hcd; iintro Hcd
    sl_exec
    iapply (gather_cd d L cd) $$ Hcd; iintro Hcd
    iapply (scatter_cn d L _) $$ Hcn; iintro Hcn
    sl_exec
    iapply (scatter_cn d L _) $$ Hcn; iintro Hcn
    sl_step
    isplitl [Hcd]; · iexact Hcd
    rw [show hist cd hc (k.val + 1) = bump (bump (hist cd hc k) (codeX cd k) (codeX_ok hc _)) (k0_pay12 (codeY cd k)) (codeY_ok hc _) from dif_pos k.isLt]
    iexact Hcn
  · unfold inv2
    isplitl [Hcd]; · iexact Hcd
    iexact Hcn
  iintro %_ HI
  unfold inv2
  iapply Hk
  rw [show Scf.trips k0_t2_loop.lb k0_t2_loop.ub k0_t2_loop.st = 64 from trips2]
  iexact HI

/-! ## Adding the mate's counters -/

/-- Before trip `k` the first `16k` counters have the mate's added, the others are the tile's own. -/
def inv3 (own other : Vec F S640 .f32) (k : ℕ) (_ : PUnit) : sProp (MM F) :=
  iprop(otPts d L other ∗ ∃ f : Vec F S640 .f32, cnPts d L f
    ∗ ⌜∀ j : S640.Idx, ((j 0).val < 16 * k → f j = both own other j) ∧ (16 * k ≤ (j 0).val → f j = own j)⌝)

set_option maxHeartbeats 1000000 in
theorem loop3 (own other : Vec F S640 .f32) (arg1 v26 : BitVec 32) (v30 : IVec S16 32) (v31 : FVec F S16 .f32)
    {α : Type} (k : PUnit → Prog (TpuEff nD τ sig (Elt F) Λ₀ (thr d L).2) α) (Q : α → sProp (MM F)) :
    iprop((otPts d L other ∗ cnPts d L own) ∗ ((otPts d L other ∗ cnPts d L (both own other)) -∗ wp frame (wpE (defs₀ (F := F)) 𝒱₀ (thr d L) none) Set.univ (k ⟨⟩) Q))
      ⊢ wp frame (wpE (defs₀ (F := F)) 𝒱₀ (thr d L) none) Set.univ
          (Scf.Loop.for k0_t3_loop k0_t3_ok ⟨⟩ (k0_t3_body L v0V (Memref.isWhole_whole _) v1V (Memref.isWhole_whole _) cdV (Memref.isWhole_whole _) cnV (Memref.isWhole_whole _)
            prV (Memref.isWhole_whole _) otV (Memref.isWhole_whole _) shV (Memref.isWhole_whole _) cc0_scoped0 cc0_scoped1 cc0_scoped2 cc0_scoped3 arg1 v26 v30 v31) >>= k) Q := by
  iintro ⟨⟨Hot, Hcn⟩, Hk⟩
  sl_for (inv3 d L own other) $$ [Hot Hcn]
  case region =>
    intro k _
    unfold inv3
    iintro ⟨Hot, %f, Hcn, %hf⟩
    unfold loop3.sl.prog.body_1 k0_t3_body
    sl_exec
    sl_step
    isplitl [Hot]; · iexact Hot
    iexists _
    isplitl; · iexact Hcn
    ipureintro; intro j
    have hk : k.val < 40 := lt_of_lt_of_eq k.isLt trips3
    rcases lt_or_ge (j 0).val (16 * k.val) with h | h
    · exact ⟨fun _ => (stored_not_mem cnV f (k0_off5_inb k) _ j (16 * k.val) (k0_off5_eq k) (.inl h)).trans ((hf j).1 h), fun h' => by omega⟩
    · rcases lt_or_ge (j 0).val (16 * (k.val + 1)) with h' | h'
      · refine ⟨fun _ => ?_, fun h'' => by omega⟩
        have hl : (j 0).val = 16 * k.val + (⟨(j 0).val - 16 * k.val, by omega⟩ : Fin 16).val := by show _ = _ + (_ - _); omega
        refine (stored_mem cnV f (k0_off5_inb k) _ j (16 * k.val) (k0_off5_eq k) _ hl).trans ?_
        refine (congrArg₂ FloatOps.addf (loaded cnV f (k0_off5_inb k) j (16 * k.val) (k0_off5_eq k) _ hl)
          (loaded otV other (k0_off5_inb k) j (16 * k.val) (k0_off5_eq k) _ hl)).trans ?_
        exact congrArg (FloatOps.addf · (other j)) ((hf j).2 h)
      · exact ⟨fun h'' => by omega, fun _ => (stored_not_mem cnV f (k0_off5_inb k) _ j (16 * k.val) (k0_off5_eq k) (.inr (by omega))).trans ((hf j).2 h)⟩
  · unfold inv3
    isplitl [Hot]; · iexact Hot
    iexists own
    isplitl; · iexact Hcn
    ipureintro; intro j
    exact ⟨fun h => by omega, fun _ => rfl⟩
  iintro %_ HI
  unfold inv3
  icases HI with ⟨Hot, %f, Hcn, %hf⟩
  iapply Hk
  isplitl [Hot]; · iexact Hot
  rw [show both own other = f from funext fun j => ((hf j).1 (by
    have h : (j 0).val < 640 := (j 0).isLt
    show (j 0).val < 16 * k0_t3_loop.trips
    rw [trips3]; omega)).symm]
  iexact Hcn

/-! ## The weights -/

/-- Before trip `k` the first `16k` weights are written. -/
def inv4 (cnt : Vec F S640 .f32) (k : ℕ) : sProp (MM F) :=
  iprop(cdPts d L cd ∗ cnPts d L cnt ∗ ∃ f : Vec F S1024 .f32, prPts d L f
    ∗ ⌜∀ j : S1024.Idx, (j 0).val < 16 * k → f j = prob cd hc cnt j⌝)

set_option maxHeartbeats 1000000 in
theorem loop4 (cnt : Vec F S640 .f32) (f : Vec F S1024 .f32) (v : FVec F S16 .f32)
    {α : Type} (k : FVec F S16 .f32 → Prog (TpuEff nD τ sig (Elt F) Λ₀ (thr d L).2) α) (Q : α → sProp (MM F)) :
    iprop((cdPts d L cd ∗ cnPts d L cnt ∗ prPts d L f)
        ∗ (∀ v, (cdPts d L cd ∗ cnPts d L cnt ∗ prPts d L (prob cd hc cnt)) -∗ wp frame (wpE (defs₀ (F := F)) 𝒱₀ (thr d L) none) Set.univ (k v) Q))
      ⊢ wp frame (wpE (defs₀ (F := F)) 𝒱₀ (thr d L) none) Set.univ
          (Scf.Loop.for k0_t4_loop k0_t4_ok v (k0_t4_body L v0V (Memref.isWhole_whole _) v1V (Memref.isWhole_whole _) cdV (Memref.isWhole_whole _) cnV (Memref.isWhole_whole _)
            prV (Memref.isWhole_whole _) otV (Memref.isWhole_whole _) shV (Memref.isWhole_whole _) cc0_scoped0 cc0_scoped1 cc0_scoped2 cc0_scoped3 lanes k0_pay7 0#32) >>= k) Q := by
  iintro ⟨⟨Hcd, Hcn, Hpr⟩, Hk⟩
  sl_for (fun n _ => inv4 d L cd hc cnt n) $$ [Hcd Hcn Hpr]
  case region =>
    intro k _
    unfold inv4
    iintro ⟨Hcd, Hcn, %f, Hpr, %hf⟩
    unfold loop4.sl.prog.body_1 k0_t4_body
    have hk : k.val < 64 := lt_of_lt_of_eq k.isLt trips4
    have h1 := even_ok (k.cast (trips4.trans trips2.symm))
    have h2 := odd_ok (k.cast (trips4.trans trips2.symm))
    have h1' : k0_chk5 (k0_pay2 lanes 0#32 k) := h1
    have h2' : k0_chk6 (k0_pay3 lanes 0#32 k) := h2
    have h3 : k0_chk7 (loadIdx cd ![k0_pay2 lanes 0#32 k] h1) := codeX_ok hc (k.cast (trips4.trans trips2.symm))
    have h4 : k0_chk8 (k0_pay4 (loadIdx cd ![k0_pay3 lanes 0#32 k] h2)) := codeY_ok hc (k.cast (trips4.trans trips2.symm))
    sl_exec
    iapply (gather_cd d L cd) $$ Hcd; iintro Hcd
    sl_exec
    iapply (gather_cd d L cd) $$ Hcd; iintro Hcd
    iapply (gather_cn d L cnt) $$ Hcn; iintro Hcn
    sl_exec
    iapply (gather_cn d L cnt) $$ Hcn; iintro Hcn
    sl_exec
    sl_step
    isplitl [Hcd]; · iexact Hcd
    isplitl [Hcn]; · iexact Hcn
    iexists _
    isplitl; · iexact Hpr
    ipureintro; intro j hj
    rcases lt_or_ge (j 0).val (16 * k.val) with h | h
    · exact (stored_not_mem prV f (k0_off6_inb k) _ j (16 * k.val) (k0_off6_eq k) (.inl h)).trans (hf j h)
    · have hl : (j 0).val = 16 * k.val + (⟨(j 0).val - 16 * k.val, by omega⟩ : Fin 16).val := by show _ = _ + (_ - _); omega
      refine (stored_mem prV f (k0_off6_inb k) _ j (16 * k.val) (k0_off6_eq k) _ hl).trans ?_
      show probs cd hc cnt (k.cast (trips4.trans trips2.symm)) _ = probs cd hc cnt (tripOf j) (laneOf j)
      rw [show tripOf j = k.cast (trips4.trans trips2.symm) from Fin.ext (by show (j 0).val / 16 = k.val; omega)]
      congr 1
      unfold laneOf
      congr 1
      apply Fin.ext; show (j 0).val - 16 * k.val = (j 0).val % 16; omega
  · unfold inv4
    isplitl [Hcd]; · iexact Hcd
    isplitl [Hcn]; · iexact Hcn
    iexists f
    isplitl; · iexact Hpr
    ipureintro; intro j hj
    omega
  iintro %v' HI
  unfold inv4
  icases HI with ⟨Hcd, Hcn, %f, Hpr, %hf⟩
  unfold loop4.sl.prog.cont_1
  ihave Hk := Hk $$ %v'
  iapply Hk
  isplitl [Hcd]; · iexact Hcd
  isplitl [Hcn]; · iexact Hcn
  rw [show prob cd hc cnt = f from funext fun j => (hf j (by
    have h : (j 0).val < 1024 := (j 0).isLt
    show (j 0).val < 16 * k0_t4_loop.trips
    rw [trips4]; omega)).symm]
  iexact Hpr

end Loops

end Cert.Proof.Pool

end
-- ==== Proof.Tile.lean ====
/-
  One tile of the SparseCore call, run at a symbolic grid point with the values it computes: it fetches its codes, clears
  and fills its counters, exchanges them with its mate across the barrier, adds the mate's to its own, computes the weight
  of every position and sends the weights out.
-/
module

public import proofs.«01_k».proof.Proof.Loops

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Tile

variable (V0 : Dev nD → Vec F S16x4096 .i32) (hV : AllInRange V0) (d : Dev nD) (L : grid0.Coords)

/-! The rows and scratch buffers as the program spells them. -/

theorem pts_v0RowK (f : Buf (Elt F) (v0Loc d)) :
    ((v0RowK L).view.loc (thr d L) ↦[(v0RowK L).view.set]{fullShare} f : sProp (MM F)) = v0Loc d ↦[(v0RowK L).view.set]{fullShare} f := rfl
theorem pts_v1RowK (f : Buf (Elt F) (v1Loc d)) :
    ((v1RowK L).view.loc (thr d L) ↦[(v1RowK L).view.set]{fullShare} f : sProp (MM F)) = v1Loc d ↦[(v1RowK L).view.set]{fullShare} f := rfl
theorem pts_shRowK (f : Buf (Elt F) (shLoc d (cV L))) :
    ((shRowK L).view.loc (thr d L) ↦[(shRowK L).view.set]{fullShare} f : sProp (MM F)) = shPts d (cV L) (jV L) f := by
  unfold shPts; rw [crd_eta]; rfl
theorem pts_shRowK2 (f : Buf (Elt F) (shLoc d (cV L))) :
    ((shRowK2 L).view.loc (thr d L) ↦[(shRowK2 L).view.set]{fullShare} f : sProp (MM F)) = shPts d (cV L) (mate (jV L)) f := by
  have e : ((shRowK2 L).view.set : Finset S16x640.Idx) = (shRowK (mateL L)).view.set := by
    show (((shV).view.slice (rowR4 L)).reshape S640 squeezes_S1x640_S640.numel_eq).set = (((shV).view.slice (rowR3 (mateL L))).reshape S640 squeezes_S1x640_S640.numel_eq).set
    rw [View.set_reshape, View.set_reshape]
    exact rowR4_eq L ▸ rfl
  exact congrArg (fun s : Finset S16x640.Idx => (shLoc d (cV L) ↦[s]{fullShare} f : sProp (MM F))) e

abbrev cA : GSem nD τ sig := (thr d L, .dma cc0_scoped0.sem)
abbrev cB : GSem nD τ sig := (thr d L, .dma cc0_scoped1.sem)
abbrev cC : GSem nD τ sig := (thr d L, .dma cc0_scoped2.sem)
abbrev cD : GSem nD τ sig := (thr d L, .dma cc0_scoped3.sem)

/-- The four copies' semaphores are among the tile's own: they, at zero, and the rest. -/
theorem ownSems0_V :
    (ownSems0 (thr d L) : sProp (MM F))
      = iprop(semVal (cA d L) 0 ∗ semVal (cB d L) 0 ∗ semVal (cC d L) 0 ∗ semVal (cD d L) 0
          ∗ bigSep (((((ownCells (thr d L)).erase (cA d L)).erase (cB d L)).erase (cC d L)).erase (cD d L)) fun g => semVal g 0) := by
  have h : ∀ sm : SemLoc sig, sm.isScoped .scVector = true → ((thr d L, sm) : GSem nD τ sig) ∈ ownCells (thr d L) :=
    fun sm hs => mem_ownCells.mpr ⟨rfl, hs⟩
  have n : ∀ {a b : SemLoc sig}, a ≠ b → ((thr d L, a) : GSem nD τ sig) ≠ (thr d L, b) := fun hab e => hab (Prod.mk.inj e).2
  unfold SparseCore.Cfg.ownSems0
  rw [SparseCore.bigSep_erase' (i := cA d L) (h _ (by decide)),
    SparseCore.bigSep_erase' (i := cB d L) (Finset.mem_erase.mpr ⟨n (by decide), h _ (by decide)⟩),
    SparseCore.bigSep_erase' (i := cC d L) (Finset.mem_erase.mpr ⟨n (by decide), Finset.mem_erase.mpr ⟨n (by decide), h _ (by decide)⟩⟩),
    SparseCore.bigSep_erase' (i := cD d L) (Finset.mem_erase.mpr ⟨n (by decide), Finset.mem_erase.mpr ⟨n (by decide), Finset.mem_erase.mpr ⟨n (by decide), h _ (by decide)⟩⟩⟩)]

abbrev rf (b : Ref sig .scVector) : DevRef τ sig := (Proc.scVector (cV L) (jV L)).devRef b

/-- The four scratch buffers are among the tile's own: they, at some contents, and the rest. -/
theorem ownBufs_V :
    (ownBufs (thr d L) : sProp (MM F))
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (rf L cc0_scratch0)).erase (rf L cc0_scratch1)).erase (rf L cc0_scratch2)).erase (rf L cc0_scratch3))
              fun b => iprop(∃ f, ((d, b) : Loc nD τ sig) ↦{fullShare} f)) := by
  have n : ∀ {a b : Ref sig .scVector}, a ≠ b → rf L a ≠ rf L b := fun hab e => hab (Proc.devRef_injective _ e)
  have h : ∀ b : Ref sig .scVector, (rf L b).owner = .proc (Proc.scVector (cV L) (jV L)) → rf L b ∈ ownRefs (τ := τ) (.scVector (cV L) (jV L)) :=
    fun b hb => SparseCore.Cfg.mem_ownRefs_of_owner (p := Proc.scVector (cV L) (jV L)) hb
  unfold SparseCore.Cfg.ownBufs
  rw [SparseCore.bigSep_erase' (i := rf L cc0_scratch0) (h cc0_scratch0 rfl),
    SparseCore.bigSep_erase' (i := rf L cc0_scratch1) (Finset.mem_erase.mpr ⟨n (by decide), h cc0_scratch1 rfl⟩),
    SparseCore.bigSep_erase' (i := rf L cc0_scratch2) (Finset.mem_erase.mpr ⟨n (by decide), Finset.mem_erase.mpr ⟨n (by decide),
      h cc0_scratch2 rfl⟩⟩),
    SparseCore.bigSep_erase' (i := rf L cc0_scratch3) (Finset.mem_erase.mpr ⟨n (by decide), Finset.mem_erase.mpr ⟨n (by decide),
      Finset.mem_erase.mpr ⟨n (by decide), h cc0_scratch3 rfl⟩⟩⟩)]

/-! What the copies between a scratch buffer and a row leave. -/

omit [FloatOps F] in
/-- A view written whole with `w`, on the view's elements: any contents that read as `w`. -/
theorem view_written {t : Thread nD τ} {sp : Space} {s : Shape} {e : EltTy} (v : View sig t.2.kind sp s e) (f g : v.ty.Contents (Elt F))
    (w : s.Idx → Elt F e) (h : v.read (Elt F) g = w) :
    (v.loc t ↦[v.set]{fullShare} (v.writes (Elt F) f [⟨Rect.whole s, w⟩]) : sProp (MM F)) = (v.loc t ↦[v.set]{fullShare} g) :=
  pointsTo_congr fun i hi => by
    obtain ⟨j, -, rfl⟩ := Finset.mem_map.mp hi
    have e := View.read_writes_cons_emb (v := v) (f := f) (Rect.whole s) w [] j
    rw [Rect.emb_whole_apply, ← h, View.read_apply, View.read_apply] at e
    rw [← h]
    exact cast_inj _ |>.mp e

/-- Before the barrier, a tile's row of the shared scratch is what its duties hand over: its mate's round gets the row, the
    other rounds nothing. -/
theorem pays_intro : shPts d (cV L) (jV L) (shVal V0 hV d (cV L))
    ⊢ (bigSep Finset.univ fun j : Fin (grid0.bound 1) => (bRd V0 hV).payload (bcell d (cV L) (j.castLE hsub0)) 0 (jV L).val : sProp (MM F)) := by
  let j₀ : Fin (grid0.bound 1) := Fin.cast nSub_eq (mate (jV L))
  have hj₀ : mate (j₀.castLE hsub0) = jV L := mate_mate _
  have hval : ∀ j : Fin (grid0.bound 1), ((jV L).val = (mate (j.castLE hsub0)).val) ↔ j = j₀ := fun j => by
    constructor
    · intro h
      have h' : j.castLE hsub0 = mate (jV L) := by rw [← mate_mate (j.castLE hsub0), ← Fin.ext h]
      exact Fin.ext (congrArg Fin.val h')
    · rintro rfl; exact congrArg Fin.val hj₀.symm
  rw [SparseCore.bigSep_erase' (Finset.mem_univ j₀),
    show (bigSep (Finset.univ.erase j₀) fun j : Fin (grid0.bound 1) => (bRd V0 hV).payload (bcell d (cV L) (j.castLE hsub0)) 0 (jV L).val)
      = bigSep (Finset.univ.erase j₀) fun _ => (iprop(emp) : sProp (MM F)) from
      bigSep_congr fun j hj => if_neg fun h => (Finset.mem_erase.mp hj).1 ((hval j).mp h), bigSep_emp']
  iintro H
  isplitl [H]
  · show _ ⊢ bPay V0 hV (bcell d (cV L) (j₀.castLE hsub0)) (jV L).val
    unfold bPay; dsimp only
    rw [if_pos ((hval j₀).mpr rfl), hj₀]
  · iempintro

/-- After it, what its own round collected holds the mate's row, with the mate's counters. -/
theorem pays_elim : (bigSep ((bRd V0 hV).duties (bcell d (cV L) (jV L)) 0 \ ∅) fun n => (bRd V0 hV).payload (bcell d (cV L) (jV L)) 0 n)
    ⊢ (shPts d (cV L) (mate (jV L)) (shVal V0 hV d (cV L)) : sProp (MM F)) := by
  rw [Finset.sdiff_empty, bRd_duties₀]
  refine (bigSep_elim (i := (mate (jV L)).val) (Finset.mem_image_of_mem _ (Finset.mem_univ _))).trans ?_
  show bPay V0 hV (bcell d (cV L) (jV L)) (mate (jV L)).val ⊢ _
  unfold bPay; dsimp only
  rw [if_pos rfl]

/-- What the tile reads in its mate's row: the mate's counters. -/
theorem mate_read : (shRowK2 L).view.read (Elt F) (shVal V0 hV d (cV L)) = cnt V0 hV d (mateL L) := by
  funext j
  have e : ((shRowK2 L).view.emb j : S16x640.Idx) = (shRowK (mateL L)).view.emb j := funext fun a => Fin.ext (by
    show k0_off4 L a + 1 * (Shape.reshapeEquiv squeezes_S1x640_S640.numel_eq j a).val = k0_off3 (mateL L) a + 1 * (Shape.reshapeEquiv squeezes_S1x640_S640.numel_eq j a).val
    rw [off4_eq])
  show shVal V0 hV d (cV L) ((shRowK2 L).view.emb j) = _
  rw [e]
  exact shVal_emb V0 hV d (mateL L) j

set_option maxHeartbeats 4000000 in
/-- The task. -/
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit V0 hV d (cV L) (jV L)
        ∗ (goPts V0 d (cV L) (jV L) ∗ ∃ f, shPts d (cV L) (jV L) f)
        ∗ scopedBufs (thr d L) ∗ scopedSems0 (thr d L) ∗ owes (thr d L) (O + oxV d (cV L)) W)
      ⊢ wp frame (wpE (defs₀ (F := F)) 𝒱₀ (thr d L) none) Set.univ
          (cc0__sc_weights_body L v0V (Memref.isWhole_whole _) v1V (Memref.isWhole_whole _) cdV (Memref.isWhole_whole _) cnV (Memref.isWhole_whole _)
            prV (Memref.isWhole_whole _) otV (Memref.isWhole_whole _) shV (Memref.isWhole_whole _) cc0_scoped0 cc0_scoped1 cc0_scoped2 cc0_scoped3)
          fun _ => iprop(((tdPts V0 hV d (cV L) (jV L) ∗ ∃ f, shPts d (cV L) (mate (jV L)) f) ∗ bar0 d (cV L) (jV L))
            ∗ scopedBufs (thr d L) ∗ scopedSems0 (thr d L)
            ∗ ∃ W', ⌜∀ p ∈ W', p ∈ W ∨ p.2 = none ∨ p.2 = some (0 : Fin 1)⌝ ∗ owes (thr d L) O W') := by
  simp only [cc0__sc_weights_body_eq_skeleton]; unfold cc0__sc_weights_body_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  unfold bkit goPts tdPts v0Pts v1Pts
  rw [crd_eta]
  iintro ⟨#Hlv, ⟨⟨%κ, #Hinv⟩, Htoks, #Hrch, Hat, Hcred⟩, ⟨⟨Hx, %fw, Hw⟩, %fsh, Hsh⟩, ⟨⟨%f0, H0⟩, ⟨%f1, H1⟩, ⟨%f2, H2⟩, ⟨%f3, H3⟩, Hbufs⟩, ⟨HsemA, HsemB, HsemC, HsemD, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  ihave Hx' := (Entails.of_eq (pts_v0RowK (F := F) d L _).symm) $$ Hx
  ihave Hw' := (Entails.of_eq (pts_v1RowK (F := F) d L _).symm) $$ Hw
  ihave Hsh' := (Entails.of_eq (pts_shRowK (F := F) d L _).symm) $$ Hsh
  ihave H0' := (show ((thr d L).loc cc0_scratch0 ↦{fullShare} f0 : sProp (MM F)) ⊢ (cdV).view.loc (thr d L) ↦{fullShare} f0 from BI.Entails.refl _) $$ H0
  ihave H1' := (show ((thr d L).loc cc0_scratch1 ↦{fullShare} f1 : sProp (MM F)) ⊢ (cnV).view.loc (thr d L) ↦{fullShare} f1 from BI.Entails.refl _) $$ H1
  ihave H2' := (show ((thr d L).loc cc0_scratch2 ↦{fullShare} f2 : sProp (MM F)) ⊢ (prV).view.loc (thr d L) ↦{fullShare} f2 from BI.Entails.refl _) $$ H2
  ihave H3' := (show ((thr d L).loc cc0_scratch3 ↦{fullShare} f3 : sProp (MM F)) ⊢ (otV).view.loc (thr d L) ↦{fullShare} f3 from BI.Entails.refl _) $$ H3
  sl_exec
  ihave Hcd := (Entails.of_eq (show ((cdV).view.loc (thr d L) ↦{fullShare} (View.write (Elt F) (cdV).view f0 (tile_body.sl.dma0 V0 d L) Finset.univ) : sProp (MM F))
    = cdPts d L (codes V0 d L) from congrArg _ (View.write_whole_univ (cc0_scratch0 : Ref sig .scVector) f0 _))) $$ H0'
  rw [bind_assoc]
  iapply (loop1 d L _ _ _ _ f1); isplitl [H1']; · iexact H1'
  iintro Hcn
  rw [bind_assoc]
  iapply (loop2 d L (codes V0 d L) (codes_ok V0 hV d L)); isplitl [Hcd Hcn]
  · isplitl [Hcd]; · iexact Hcd
    iexact Hcn
  iintro ⟨Hcd, Hcn⟩
  rw [bind_assoc]
  sl_exec
  ihave Hsh := (Entails.of_eq (view_written (t := thr d L) (shRowK L).view fsh (shVal V0 hV d (cV L)) (tile_body.sl.dma0_1 V0 hV d L) (funext (shVal_emb V0 hV d L)))) $$ Hsh'
  -- the barrier: the row handed over, the mate's received
  ihave Hpays := (pays_intro V0 hV d L) $$ [Hsh]
  · iapply (Entails.of_eq (pts_shRowK (F := F) d L _)); iexact Hsh
  rw [bind_assoc]
  iapply (SparseCore.wp_subcoreBarrier 𝒱₀ none EB (bRd V0 hV) d (sc := cV L) (i := jV L) sc_bar0 (grid0.bound 1) hsub0 (L 1) rfl κ (fun _ => 0) (jV L).val
      (fun j => bRd_mem₀ V0 hV d _ _ _) (fun _ => rfl) (bRd_expect V0 hV d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd V0 hV) (g := bcell d (cV L) (jV L)) (Set.mem_univ (κ _)) (fun h => h) (bRd_duties_succ V0 hV _)) $$ [Hat] with Hbar
  · isplitr
    · iapply (SparseCore.ent (bigSep_elim (Φ := fun j : Fin (grid0.bound 1) =>
        (cellInv EB (bRd V0 hV) (κ (bcell d (cV L) (j.castLE hsub0))) (bcell d (cV L) (j.castLE hsub0)) : sProp (MM F))) (Finset.mem_univ (L 1)))); iexact Hinv
    · iexact Hat
  ihave Hn := (pays_elim V0 hV d L) $$ Hgot
  ihave Hn' := (Entails.of_eq (pts_shRowK2 (F := F) d L _).symm) $$ Hn
  -- the mate's row fetched, the counters added, the weights computed and sent out
  sl_exec
  ihave Hot := (Entails.of_eq (show ((otV).view.loc (thr d L) ↦{fullShare} (View.write (Elt F) (otV).view f3 (tile_body.sl.dma0_2 V0 hV d L) Finset.univ) : sProp (MM F))
    = otPts d L (cnt V0 hV d (mateL L)) from congrArg _ ((View.write_whole_univ (cc0_scratch3 : Ref sig .scVector) f3 _).trans (mate_read V0 hV d L)))) $$ H3'
  rw [bind_assoc]
  iapply (loop3 d L (cnt V0 hV d L) (cnt V0 hV d (mateL L))); isplitl [Hot Hcn]
  · isplitl [Hot]; · iexact Hot
    iexact Hcn
  iintro ⟨Hot, Hcn⟩
  rw [pure_bind]
  iapply (loop4 d L (codes V0 d L) (codes_ok V0 hV d L) (both (cnt V0 hV d L) (cnt V0 hV d (mateL L))) f2); isplitl [Hcd Hcn H2']
  · isplitl [Hcd]; · iexact Hcd
    isplitl [Hcn]; · iexact Hcn
    iexact H2'
  iintro %v ⟨Hcd, Hcn, Hpr⟩
  sl_exec
  sl_step
  ihave Hw := (Entails.of_eq (view_written (t := thr d L) (v1RowK L).view fw (wtsAll V0 hV d) (tile_body.sl.dma0_3 V0 hV d L) (funext (wtsAll_emb V0 hV d L)))) $$ Hw'
  isplitl [Hx' Hw Hn' Hbar]
  · isplitr [Hbar]; swap; · iexact Hbar
    isplitl [Hx' Hw]
    · isplitl [Hx']; · iapply (Entails.of_eq (pts_v0RowK (F := F) d L _)); iexact Hx'
      iapply (Entails.of_eq (pts_v1RowK (F := F) d L _)); iexact Hw
    iexists _; iapply (Entails.of_eq (pts_shRowK2 (F := F) d L _)); iexact Hn'
  isplitl [Hcd Hcn Hpr Hot Hbufs]
  · isplitl [Hcd]; · iexists _; iexact Hcd
    isplitl [Hcn]; · iexists _; iexact Hcn
    isplitl [Hpr]; · iexists _; iexact Hpr
    isplitl [Hot]; · iexists _; iexact Hot
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  exact .inl hp

/-! ## The obligation -/

theorem defs₀_vector (c : Fin τ.nSC) (s : Fin τ.nSub) :
    defs₀ (F := F) (.scVector c s) 0 ()
      = SparseCore.onTile hcore0 hsub0 (fun c s => cc0__sc_weights_body (coordsV c s)
          v0V (Memref.isWhole_whole _) v1V (Memref.isWhole_whole _) cdV (Memref.isWhole_whole _) cnV (Memref.isWhole_whole _)
          prV (Memref.isWhole_whole _) otV (Memref.isWhole_whole _) shV (Memref.isWhole_whole _) cc0_scoped0 cc0_scoped1 cc0_scoped2 cc0_scoped3) ⟨⟩ c s := rfl

end Tile

set_option maxRecDepth 16384 in
/-- Every tile of the call does its task. -/
theorem tileObl (V0 : Dev nD → Vec F S16x4096 .i32) (hV : AllInRange V0) (hF : (K (F := F)).Facts) :
    (K (F := F)).TileObl (D (F := F)) 𝒱 (P V0 hV) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body V0 hV d (coordsV ⟨_, hci.1⟩ ⟨_, hci.2⟩) hF O W hO hOlev

end Cert.Proof.Pool

end
-- ==== Proof.Launch.lean ====
/-
  The SparseCore call's launch: the arrays of codes and of weights dealt to the tiles by rows and gathered again, a
  SparseCore's shared scratch likewise, and the ghost state the call and the pipeline after it start from.
-/
module

public import proofs.«01_k».proof.Proof.Tile
public import proofs.«01_k».proof.Proof.Gen.KernelIdeal.Launch
public import Idealize.ShloMosaic.Lib.Pipeline.RegionArraysT

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Rows: disjoint, and together the whole -/

theorem v0_mem (L : grid0.Coords) (j : S16x4096.Idx) :
    j ∈ (v0RowK L).view.set ↔ (j 0).val = 8 * (L 0).val + (L 1).val / 2 ∧ (j 1).val / 2048 = (L 1).val % 2 := by
  have e : (v0RowK L).view.set = (rowR1 L).set := by
    show (((View.whole (main_v0_scv : Ref sig .scVector)).slice (rowR1 L)).reshape _ _).set = _
    rw [View.set_reshape, View.set_slice]; exact Finset.map_refl
  rw [e, Rect.mem_set_unit, off1_eq]
  have h1 : (j 1).val < 4096 := (j 1).isLt
  constructor
  · intro h
    have h0 := h 0
    have h1 := h 1
    simp only [Matrix.cons_val_zero, Matrix.cons_val_one] at h0 h1
    constructor <;> omega
  · intro ⟨h0, h1'⟩ a
    match a with
    | 0 => show 8 * (L 0).val + (L 1).val / 2 ≤ (j 0).val ∧ (j 0).val < 8 * (L 0).val + (L 1).val / 2 + 1; omega
    | 1 => show 2048 * ((L 1).val % 2) ≤ (j 1).val ∧ (j 1).val < 2048 * ((L 1).val % 2) + 2048; omega

theorem v1_mem (L : grid0.Coords) (j : S16x2x1024.Idx) :
    j ∈ (v1RowK L).view.set ↔ (j 0).val = 8 * (L 0).val + (L 1).val / 2 ∧ (j 1).val = (L 1).val % 2 := by
  have e : (v1RowK L).view.set = (rowR7 L).set := by
    show (((View.whole (main_v1_scv : Ref sig .scVector)).slice (rowR7 L)).reshape _ _).set = _
    rw [View.set_reshape, View.set_slice]; exact Finset.map_refl
  rw [e, Rect.mem_set_unit, off7_eq]
  have h1 : (j 2).val < 1024 := (j 2).isLt
  constructor
  · intro h
    have h0 := h 0
    have h1 := h 1
    simp only [Matrix.cons_val_zero, Matrix.cons_val_one] at h0 h1
    constructor <;> omega
  · intro ⟨h0, h1'⟩ a
    match a with
    | 0 => show 8 * (L 0).val + (L 1).val / 2 ≤ (j 0).val ∧ (j 0).val < 8 * (L 0).val + (L 1).val / 2 + 1; omega
    | 1 => show (L 1).val % 2 ≤ (j 1).val ∧ (j 1).val < (L 1).val % 2 + 1; omega
    | 2 => show 0 ≤ (j 2).val ∧ (j 2).val < 0 + 1024; omega

theorem sh_mem (L : grid0.Coords) (j : S16x640.Idx) : j ∈ (shRowK L).view.set ↔ (j 0).val = (L 1).val := by
  have e : (shRowK L).view.set = (rowR3 L).set := by
    show (((View.whole (cc0_scratch4 : Ref sig .scVector)).slice (rowR3 L)).reshape _ _).set = _
    rw [View.set_reshape, View.set_slice]; exact Finset.map_refl
  rw [e, Rect.mem_set_unit, k0_off3_eq]
  have h1 : (j 1).val < 640 := (j 1).isLt
  constructor
  · intro h
    have h0 := h 0
    simp only [Matrix.cons_val_zero] at h0
    omega
  · intro h0 a
    match a with
    | 0 => show (L 1).val ≤ (j 0).val ∧ (j 0).val < (L 1).val + 1; omega
    | 1 => show 0 ≤ (j 1).val ∧ (j 1).val < 0 + 640; omega

/-- The tiles of the call's grid. -/
abbrev CI : Type := Fin ((K (F := F)).nCore 0) × Fin ((K (F := F)).nSub 0)
abbrev crdOf (x : CI (F := F)) : grid0.Coords := crd (coreOf (F := F) x.1) (subOf (F := F) x.2)

/-- The elements of the array of codes a tile takes. -/
abbrev v0Set (x : CI (F := F)) : Finset S16x4096.Idx := (v0RowK (crdOf x)).view.set
/-- The elements of the array of weights a tile writes. -/
abbrev v1Set (x : CI (F := F)) : Finset S16x2x1024.Idx := (v1RowK (crdOf x)).view.set
/-- The elements of the shared scratch a tile writes. -/
abbrev shSet (c : Fin τ.nSC) (i : Fin τ.nSub) : Finset S16x640.Idx := (shRowK (crd c i)).view.set

theorem v0_disjoint : ∀ x ∈ (Finset.univ : Finset (CI (F := F))), ∀ y ∈ (Finset.univ : Finset (CI (F := F))), x ≠ y →
    Disjoint (v0Set x) (v0Set y) := by
  intro x _ y _ hxy
  rw [Finset.disjoint_left]
  intro j hx hy
  have h := (v0_mem _ j).mp hx
  have h' := (v0_mem _ j).mp hy
  apply hxy
  have a1 : (crdOf x 0).val = x.1.val := rfl
  have a2 : (crdOf x 1).val = x.2.val := rfl
  have b1 : (crdOf y 0).val = y.1.val := rfl
  have b2 : (crdOf y 1).val = y.2.val := rfl
  have l1 : x.2.val < 16 := x.2.isLt
  have l2 : y.2.val < 16 := y.2.isLt
  rw [a1, a2] at h; rw [b1, b2] at h'
  exact Prod.ext (Fin.ext (by omega)) (Fin.ext (by omega))

theorem v1_disjoint : ∀ x ∈ (Finset.univ : Finset (CI (F := F))), ∀ y ∈ (Finset.univ : Finset (CI (F := F))), x ≠ y →
    Disjoint (v1Set x) (v1Set y) := by
  intro x _ y _ hxy
  rw [Finset.disjoint_left]
  intro j hx hy
  have h := (v1_mem _ j).mp hx
  have h' := (v1_mem _ j).mp hy
  apply hxy
  have a1 : (crdOf x 0).val = x.1.val := rfl
  have a2 : (crdOf x 1).val = x.2.val := rfl
  have b1 : (crdOf y 0).val = y.1.val := rfl
  have b2 : (crdOf y 1).val = y.2.val := rfl
  have l1 : x.2.val < 16 := x.2.isLt
  have l2 : y.2.val < 16 := y.2.isLt
  rw [a1, a2] at h; rw [b1, b2] at h'
  exact Prod.ext (Fin.ext (by omega)) (Fin.ext (by omega))

theorem v0_cover : (Finset.univ : Finset (CI (F := F))).biUnion (v0Set (F := F)) = Finset.univ := by
  ext j
  simp only [Finset.mem_biUnion, Finset.mem_univ, true_and, iff_true]
  have h0 : (j 0).val < 16 := (j 0).isLt
  have h1 : (j 1).val < 4096 := (j 1).isLt
  refine ⟨(⟨(j 0).val / 8, by show _ < 2; omega⟩, ⟨2 * ((j 0).val % 8) + (j 1).val / 2048, by show _ < 16; omega⟩), ?_⟩
  refine (v0_mem _ j).mpr ?_
  show (j 0).val = 8 * ((j 0).val / 8) + (2 * ((j 0).val % 8) + (j 1).val / 2048) / 2 ∧ (j 1).val / 2048 = (2 * ((j 0).val % 8) + (j 1).val / 2048) % 2
  omega

theorem v1_cover : (Finset.univ : Finset (CI (F := F))).biUnion (v1Set (F := F)) = Finset.univ := by
  ext j
  simp only [Finset.mem_biUnion, Finset.mem_univ, true_and, iff_true]
  have h0 : (j 0).val < 16 := (j 0).isLt
  have h1 : (j 1).val < 2 := (j 1).isLt
  refine ⟨(⟨(j 0).val / 8, by show _ < 2; omega⟩, ⟨2 * ((j 0).val % 8) + (j 1).val, by show _ < 16; omega⟩), ?_⟩
  refine (v1_mem _ j).mpr ?_
  show (j 0).val = 8 * ((j 0).val / 8) + (2 * ((j 0).val % 8) + (j 1).val) / 2 ∧ (j 1).val = (2 * ((j 0).val % 8) + (j 1).val) % 2
  omega

theorem sh_disjoint (c : Fin τ.nSC) : ∀ i ∈ (Finset.univ : Finset (Fin τ.nSub)), ∀ j ∈ (Finset.univ : Finset (Fin τ.nSub)), i ≠ j →
    Disjoint (shSet c i) (shSet c j) := by
  intro x _ y _ hxy
  rw [Finset.disjoint_left]
  intro j hx hy
  exact hxy (Fin.ext (((sh_mem _ j).mp hx).symm.trans ((sh_mem _ j).mp hy)))

theorem sh_cover (c : Fin τ.nSC) : (Finset.univ : Finset (Fin τ.nSub)).biUnion (shSet c) = Finset.univ := by
  ext j
  simp only [Finset.mem_biUnion, Finset.mem_univ, true_and, iff_true]
  have h0 : (j 0).val < 16 := (j 0).isLt
  exact ⟨⟨(j 0).val, h0⟩, (sh_mem _ j).mpr rfl⟩

/-- The array of codes is the tiles' half rows. -/
theorem v0_rows (d : Dev nD) (f : Buf (Elt F) (v0Loc d)) :
    (v0Loc d ↦{fullShare} f : sProp (MM F)) = bigSep Finset.univ fun c : Fin ((K (F := F)).nCore 0) =>
      bigSep Finset.univ fun i : Fin ((K (F := F)).nSub 0) => v0Loc d ↦[(v0RowK (crd (coreOf c) (subOf i))).view.set]{fullShare} f := by
  rw [← bigSep_univ_prod (fun x : CI (F := F) => (v0Loc d ↦[(v0RowK (crdOf x)).view.set]{fullShare} f : sProp (MM F))),
    ← pointsTo_biUnion Finset.univ (ℓ := v0Loc d) (v0Set (F := F)) v0_disjoint, v0_cover]
  try rfl

/-- The array of weights is the tiles' half rows. -/
theorem v1_rows (d : Dev nD) (f : Buf (Elt F) (v1Loc d)) :
    (v1Loc d ↦{fullShare} f : sProp (MM F)) = bigSep Finset.univ fun c : Fin ((K (F := F)).nCore 0) =>
      bigSep Finset.univ fun i : Fin ((K (F := F)).nSub 0) => v1Pts d (coreOf c) (subOf i) f := by
  unfold v1Pts
  rw [← bigSep_univ_prod (fun x : CI (F := F) => (v1Loc d ↦[(v1RowK (crdOf x)).view.set]{fullShare} f : sProp (MM F))),
    ← pointsTo_biUnion Finset.univ (ℓ := v1Loc d) (v1Set (F := F)) v1_disjoint, v1_cover]
  try rfl

/-- A SparseCore's shared scratch is its rows. -/
theorem sh_rows (d : Dev nD) (c : Fin τ.nSC) (f : Buf (Elt F) (shLoc d c)) :
    (shLoc d c ↦{fullShare} f : sProp (MM F)) = bigSep Finset.univ fun i : Fin τ.nSub => shPts d c i f := by
  unfold shPts
  rw [← pointsTo_biUnion Finset.univ (ℓ := shLoc d c) (shSet c) (sh_disjoint c), sh_cover]
  try rfl

/-- The rows of the shared scratch, each held by its mate, at contents of their own, are it whole at some contents. -/
theorem sh_join (d : Dev nD) (c : Fin τ.nSC) :
    (bigSep Finset.univ fun i : Fin τ.nSub => iprop(∃ f, shPts d c (mate i) f)) ⊢ (iprop(∃ f, shLoc d c ↦{fullShare} f) : sProp (MM F)) := by
  show (bigSep Finset.univ fun i : Fin τ.nSub => iprop(∃ f, shPts (F := F) d c (mateEquiv i) f)) ⊢ _
  rw [← bigSep_univ_equiv mateEquiv (fun i : Fin τ.nSub => iprop(∃ f, shPts (F := F) d c i f))]
  refine (bigSep_exists_pi Finset.univ (fun i (f : Buf (Elt F) (shLoc d c)) => shPts d c i f)).trans ?_
  iintro ⟨%fs, H⟩
  unfold shPts
  ihave H' := (pointsTo_biUnion_join Finset.univ (shSet c) fs (fs ⟨0, by decide⟩) (sh_disjoint c)) $$ H
  icases H' with ⟨%g, -, Hg⟩
  rw [sh_cover]
  iexists g; iexact Hg

/-- The shared scratch is among the sequencer's own buffers: it, at some contents, and the rest. -/
theorem ownBufs_S (d : Dev nD) (c : Fin τ.nSC) :
    (ownBufs (S d c) : sProp (MM F))
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem bigSep_tasks (Φ : Fin τ.nSub → sProp (MM F)) :
    (bigSep Finset.univ fun i : Fin ((K (F := F)).nSub 0) => Φ (subOf i)) = bigSep Finset.univ Φ :=
  bigSep_congr fun _ _ => congrArg Φ (Fin.ext rfl)

section Split

variable (V0 : Dev nD → Vec F S16x4096 .i32) (hV : AllInRange V0)

/-- A SparseCore's operands are already dealt by tiles; its shared scratch is dealt by rows beside them, and put together
    from the rows the tiles bring back. -/
theorem vecSplit : (K (F := F)).VecSplit (P V0 hV) 0 := by
  intro d c
  show iprop((bigSep Finset.univ fun i : Fin ((K (F := F)).nSub 0) => goPts V0 d (coreOf c) (subOf i)) ∗ ownBufs (S d (coreOf c)))
    ⊢ |={Set.univ}=> iprop(
      (bigSep Finset.univ fun i : Fin ((K (F := F)).nSub 0) => iprop(goPts V0 d (coreOf c) (subOf i) ∗ ∃ f, shPts d (coreOf c) (subOf i) f))
      ∗ ((bigSep Finset.univ fun i : Fin ((K (F := F)).nSub 0) =>
            iprop((tdPts V0 hV d (coreOf c) (subOf i) ∗ ∃ f, shPts d (coreOf c) (mate (subOf i)) f) ∗ bar0 d (coreOf c) (subOf i)))
          -∗ iprop(((bigSep Finset.univ fun i : Fin ((K (F := F)).nSub 0) => tdPts V0 hV d (coreOf c) (subOf i))
            ∗ (bigSep Finset.univ fun i : Fin ((K (F := F)).nSub 0) => bar0 d (coreOf c) (subOf i))) ∗ ownBufs (S d (coreOf c)))))
  rw [bigSep_sep' _ (fun i : Fin ((K (F := F)).nSub 0) => goPts V0 d (coreOf c) (subOf i)),
    bigSep_sep' _ (fun i : Fin ((K (F := F)).nSub 0) => iprop(tdPts V0 hV d (coreOf c) (subOf i) ∗ ∃ f, shPts d (coreOf c) (mate (subOf i)) f)),
    bigSep_sep' _ (fun i : Fin ((K (F := F)).nSub 0) => tdPts V0 hV d (coreOf c) (subOf i)),
    bigSep_tasks (F := F) (fun i => iprop(∃ f, shPts d (coreOf c) i f)),
    bigSep_tasks (F := F) (fun i => iprop(∃ f, shPts d (coreOf c) (mate i) f)), ownBufs_S]
  iintro ⟨Hgo, ⟨%fsh, Hsh⟩, Hrest⟩; imodintro
  isplitl [Hgo Hsh]
  · isplitl [Hgo]; · iexact Hgo
    ihave Hsh' := ((Entails.of_eq (sh_rows d (coreOf c) fsh)).trans (SparseCore.ent (bigSep_mono (Φ := fun i => shPts (F := F) d (coreOf c) i fsh)
      (Ψ := fun i => iprop(∃ f, shPts (F := F) d (coreOf c) i f))
      fun i _ => BI.BIClass.exists_intro (Φ := fun f => shPts (F := F) d (coreOf c) i f) fsh))) $$ Hsh
    iexact Hsh'
  iintro ⟨⟨Htd, Hsh⟩, Hbars⟩
  isplitl [Htd Hbars]
  · isplitl [Htd] <;> iassumption
  isplitl [Hsh]; · iapply (sh_join d (coreOf c)); iexact Hsh
  iexact Hrest

end Split

/-! ## The launch element of the ghost state -/

abbrev DCI : Type := Dev nD × Fin τ.nSC × Fin τ.nSub
abbrev bcell₃ (x : DCI) : GSem nD τ sig := bcell x.1 x.2.1 x.2.2

/-- Every tile's barrier cell: of the free semaphores, the ones taken at the launch. -/
def bCells : Finset (GSem nD τ sig) := (Finset.univ : Finset DCI).image bcell₃
/-- Tile `i`'s token in tile `j`'s cell, for every two tiles of a SparseCore. -/
def bToks : Finset (GSem nD τ sig × ℕ × ℕ) :=
  ((Finset.univ : Finset DCI) ×ˢ Finset.univ).image fun x : DCI × Fin (grid0.bound 1) => (bcell x.1.1 x.1.2.1 (x.2.castLE hsub0), 0, x.1.2.2.val)

/-- Admissible contents of the table of lengths, as the pipeline takes them. -/
abbrev AdmF (F : FTy → Type) [FloatOps F] : Type := (p : Fin 1) → (pcfgs (F := F) p).Adm

variable (a : AdmF F)

abbrev pinned : Fin 1 → Pipeline.Cfg sig Λ₀ := Pipeline.pin (pcfgs (F := F)) a

def u₀ : UU := (initOf (K (F := F)).hsCells (K (F := F)).hsToks, (initOf bCells bToks,
  (initOf (Pipeline.cells (nD := nD) (τ := τ) (pinned a) (cellOf_inj a)) (Pipeline.launchToks (nD := nD) (τ := τ) (pinned a) (cellOf_inj a)), 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- The launch element's three parts: the handshakes', the barrier's, the pipeline's. -/
theorem ownU_split (x : UH) (b : UB) (p : UP) : (ownU ((x, (b, (p, 1))) : UU) : sProp (MM F)) ⊢ iprop(BI.own (EH x) ∗ BI.own (EB b) ∗ BI.own (EP p)) := by
  have h1 : (ownU ((x, (b, (p, 1))) : UU) : sProp (MM F)) ⊢ iprop(BI.own (EH x) ∗ ownU ((1, (b, (p, 1))) : UU)) :=
    BI.own_op_elim ((uEmb (nD := nD) (sig := sig) (Ix := HIx 1) (Val := Elt F) (Name := ℕ) (U := UU) (Lvl := ℕ)).toEmb.op_of_mem
      (Prod.mk_mem_op (URA.mem_op_one x) (URA.mem_one_op (b, (p, (1 : Counters))))))
  have h2 : (ownU ((1, (b, (p, 1))) : UU) : sProp (MM F)) ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  exact h1.trans (sep_mono_right h2)

/-- Every barrier semaphore at zero, out of the free semaphores the launch hands over. -/
theorem sems_b : ((K (F := F)).freeOn (· ∈ bCells) : sProp (MM F)) ⊢ bigSep bCells fun g => semVal g 0 := by
  unfold SparseCore.Cfg.freeOn bCells
  rw [SparseCore.bigSep_image_of_injOn (fun a _ b _ e => bcell₃_injective e)]
  refine sep_elim_right.trans (bigSep_mono fun dci _ => ?_)
  exact bigSep_elim (Φ := fun sm : SemLoc sig => (semVal (V dci.1 dci.2.1 dci.2.2, sm) 0 : sProp (MM F))) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (Finset.mem_univ dci)⟩)

section Deal

variable (V0 : Dev nD → Vec F S16x4096 .i32) (hV : AllInRange V0)

/-- The barrier cells' invariants, allocated at once. -/
theorem invs_b : iprop((bigSep bCells fun g => (semVal g 0 : sProp (MM F))) ∗ bigSep bCells fun g => roundState EB (bRd V0 hV) g 0)
    ⊢ |={Set.univ}=> iprop(∃ κ : GSem nD τ sig → ℕ, bigSep bCells fun g => cellInv EB (bRd V0 hV) (κ g) g) := by
  refine (Rounds.bodies_intro EB (bRd V0 hV) bCells).trans ((inv_alloc_family bCells (Rounds.body EB (bRd V0 hV)) ∅ (E := Set.univ)).trans ?_)
  iintro H
  imod H with ⟨%κ, -, Hinv⟩
  imodintro; iexists κ; iexact Hinv

theorem sum_tallyAt_one (g : GSem nD τ sig) (ι : HIx 1) (n : ℕ) : ∑ _ : Fin n, tallyAt g ι 1 = (tallyAt g ι n : CellTallies nD τ sig (HIx 1)) := by
  induction n with
  | zero => rw [Finset.univ_eq_empty, Finset.sum_empty, tallyAt_zero]
  | succ n ih => rw [Fin.sum_univ_castSucc, ih, tallyAt_add]

/-- The credit for the tiles' arrivals, regrouped: each tile the sixteen units of its own cell. -/
theorem creds_b : ((P V0 hV).oxCred : sProp (MM F)) ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P V0 hV).oxFrom 0 thr) : sProp (MM F)))]
  refine sep_elim_right.trans (sep_elim_right.trans ?_)
  rw [bigSep_univ_prod, bigSep_univ_prod (fun dci : DCI => (cred (tallyAt (bcell₃ dci) (some 0) (grid0.bound 1)) : sProp (MM F)))]
  refine bigSep_mono fun d _ => ?_
  rw [bigSep_univ_prod, bigSep_univ_prod (fun ci : Fin τ.nSC × Fin τ.nSub => (cred (tallyAt (bcell₃ (d, ci)) (some 0) (grid0.bound 1)) : sProp (MM F)))]
  refine bigSep_mono fun c _ => ?_
  dsimp only
  have hox : ∀ i, (P V0 hV).oxFrom 0 (V d c i) = oxV d c := fun i => by
    rw [show (0 : ℕ) = (0 : Fin 1).val from rfl, (P V0 hV).oxFrom_step, (P V0 hV).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

/-- A persistent resource beside a big separating conjunction goes to each conjunct. -/
theorem bigSep_mono_frame {I : Type} [DecidableEq I] {R : sProp (MM F)} [BI.Persistent R] {s : Finset I} {Φ Ψ : I → sProp (MM F)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp (MM F)))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P V0 hV).x q (SparseCore.T d)) = iprop(emp) :=
  bigSep_univ_of_subsingleton (0 : Fin 1)
theorem Px_S (d : Dev nD) (c : Fin τ.nSC) : (bigSep Finset.univ fun q : Fin 1 => (P V0 hV).x q (S d c)) = iprop(emp) :=
  bigSep_univ_of_subsingleton (0 : Fin 1)
theorem Px_V (d : Dev nD) (c : Fin τ.nSC) (i : Fin τ.nSub) :
    (bigSep Finset.univ fun q : Fin 1 => (P V0 hV).x q (V d c i)) = bkit V0 hV d c i :=
  bigSep_univ_of_subsingleton (0 : Fin 1)

theorem bCells_eq (Φ : GSem nD τ sig → sProp (MM F)) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev sharedKit : sProp (MM F) :=
  iprop((∃ κ : GSem nD τ sig → ℕ, bigSep Finset.univ fun x : DCI => cellInv EB (bRd V0 hV) (κ (bcell₃ x)) (bcell₃ x))
    ∗ (bigSep Finset.univ fun x : DCI => reached EB (bcell₃ x) 0))
/-- What each tile is handed of its own: its position, its tokens, its credit. -/
abbrev ownKit (dci : DCI) : sProp (MM F) :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(sharedKit V0 hV ∗ ownKit dci) ⊢ (bkit V0 hV dci.1 dci.2.1 dci.2.2 : sProp (MM F)) := by
  obtain ⟨d, c, i⟩ := dci
  iintro ⟨⟨#Hinv, #Hr⟩, Hat, Htok, Hcred⟩
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd V0 hV) (κ (bcell₃ x)) (bcell₃ x)) fun j _ =>
        sep_elim_left.trans (bigSep_elim (Φ := fun x : DCI => (cellInv EB (bRd V0 hV) (κ (bcell₃ x)) (bcell₃ x) : sProp (MM F)))
          (Finset.mem_univ ((d, c, Fin.castLE hsub0 j) : DCI)))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp (MM F))) (Finset.mem_univ ((d, c, Fin.castLE hsub0 j) : DCI)))))
    isplitl; · iexact Hr
    rw [bigSep_emp']; iempintro
  isplitl [Hat]; · iexact Hat
  iexact Hcred

/-- Each tile its kit. -/
theorem kits_deal :
    iprop(sharedKit V0 hV ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P V0 hV).x q thr : sProp (MM F)) := by
  rw [SparseCore.Cfg.bigSep_threads (fun thr : Thread nD τ => bigSep Finset.univ fun q : Fin 1 => (P V0 hV).x q thr)]
  simp only [Px_T, Px_S, Px_V, bigSep_emp']
  iintro ⟨#Hsh, Hat, Htok, Hcred⟩
  isplitr; · iempintro
  isplitr; · iempintro
  iapply (bigSep_mono_frame (R := sharedKit V0 hV) (Φ := ownKit (F := F)) fun dci _ => kit_intro V0 hV dci)
  isplitr; · iexact Hsh
  unfold ownKit
  rw [bigSep_sep', bigSep_sep']
  isplitl [Hat]; · iexact Hat
  isplitl [Htok]; · iexact Htok
  iexact Hcred

/-- The pipeline's ghost state on device `d`: its staging cells' and their duty tokens. -/
def G (d : Dev nD) : sProp (MM F) :=
  iprop(Pipeline.cellsGhost (pinned a) EP 0 d ∗ Pipeline.toksInit (pinned a) EP 0 d)

/-- What the launch hands over, out of the launch element: the handshakes', each device's pipeline's, each tile's kit. -/
theorem hu₀ : iprop(ownU (u₀ a) ∗ (P V0 hV).oxCred ∗ (K (F := F)).freeOn (· ∈ bCells))
    ⊢ |={Set.univ}=> iprop(BI.own (EH (initOf (K (F := F)).hsCells (K (F := F)).hsToks)) ∗ (bigSep Finset.univ (G a))
        ∗ (bigSep Finset.univ fun thr : Thread nD τ => bigSep Finset.univ fun q : Fin 1 => (P V0 hV).x q thr) : sProp (MM F)) := by
  unfold u₀
  iintro ⟨Hu, Hcred, Hfree⟩
  ihave H := (ownU_split _ _ _) $$ Hu
  icases H with ⟨HH, HB, HP⟩
  imod (Rounds.fund EB (bRd V0 hV) bCells bToks) $$ HB with ⟨Hst, #Hr, Hat, Htok⟩
  imod (Pipeline.fund_ghost (pinned a) EP (cellOf_inj a)) $$ HP with ⟨Hg, Ht⟩
  ihave Hsems := (sems_b (F := F)) $$ Hfree
  imod (invs_b V0 hV) $$ [Hsems Hst] with ⟨%κ, #Hinv⟩
  · isplitl [Hsems] <;> iassumption
  ihave Hcred' := (creds_b V0 hV) $$ Hcred
  ihave Hinv' := (Entails.of_eq (bCells_eq (F := F) fun g => cellInv EB (bRd V0 hV) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hg Ht]
  · unfold G
    rw [bigSep_sep']
    isplitl [Hg]
    · iapply (SparseCore.ent (bigSep_mono (Φ := fun d : Dev nD => bigSep Finset.univ fun p : Fin 1 => Pipeline.cellsGhost (pinned a) EP p d)
        fun d _ => Entails.of_eq (bigSep_univ_of_subsingleton (0 : Fin 1)))); iexact Hg
    · iapply (SparseCore.ent (bigSep_mono (Φ := fun d : Dev nD => bigSep Finset.univ fun p : Fin 1 => Pipeline.toksInit (pinned a) EP p d)
        fun d _ => Entails.of_eq (bigSep_univ_of_subsingleton (0 : Fin 1)))); iexact Ht
  iapply (kits_deal V0 hV)
  isplitr
  · isplitl; · iexists κ; iexact Hinv'
    iexact Hr'
  isplitl [Hat']; · iexact Hat'
  isplitl [Htok']; · iexact Htok'
  iexact Hcred'

end Deal

end Cert.Proof.Pool

end
-- ==== Proof.Step.lean ====
/-
  One grid point of the pooling kernel's TensorCore half: what it does to the pooled rows and to the running sum of the weights,
  and the body run to just that, from the table of lengths, the block of features and the array of weights.
-/
module

public import proofs.«01_k».proof.Proof.Launch
public import Idealize.ShloMosaic.Lib.Pointwise
public import Idealize.ShloMosaic.Lib.WritesUnit
public import proofs.«01_k».proof.Proof.Gen.KernelIdeal.Skeleton

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The words the body computes from a length -/

/-- The number of blocks a length needs, as the program computes it. -/
def blocks (v1 : BitVec 32) : BitVec 32 :=
  let v3 : BitVec 32 := Scalar.subi (Scalar.addi v1 1024#32) 1#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 1024#32 0#32)) (Scalar.extui (Scalar.cmpi .slt 1024#32 0#32))
  let v18 : BitVec 1 := Scalar.andi (Scalar.cmpi .ne v9 v14) (Scalar.cmpi .ne (Scalar.remsi v3 1024#32) 0#32)
  let v4 : BitVec 32 := Scalar.divsi v3 1024#32
  Scalar.select v18 (Scalar.subi v4 1#32) v4

/-- A length in range. -/
def LenOk (v : BitVec 32) : Prop := 1 ≤ v.toNat ∧ v.toNat ≤ 2048

theorem blocks_fin : ∀ n : Fin 2049, 1 ≤ n.val → blocks (BitVec.ofNat 32 n.val) = if n.val ≤ 1024 then 1#32 else 2#32 := by decide +kernel

theorem blocks_eq (v : BitVec 32) (h : LenOk v) : blocks v = if v.toNat ≤ 1024 then 1#32 else 2#32 := by
  have e := blocks_fin ⟨v.toNat, by have := h.2; omega⟩ h.1
  rwa [BitVec.ofNat_toNat, BitVec.setWidth_eq] at e

theorem cond3_def (i : grid1.Coords) (v : BitVec 32) :
    k1_cond3 i v = Scalar.cmpi .ne (Scalar.extui (Scalar.cmpi .slt (BitVec.ofNat 32 (i 1).val) (blocks v))) 0#32 := rfl
theorem off2_def (i : grid1.Coords) (v : BitVec 32) :
    k1_off2 i v = ![(Scalar.indexCast (BitVec.ofNat 32 (i 0).val)).toNat, (Scalar.indexCast (Scalar.minsi (BitVec.ofNat 32 (i 1).val) (Scalar.subi (blocks v) 1#32))).toNat, 0] := rfl

theorem lt16 (i : grid1.Coords) : (i 0).val < 16 := (i 0).isLt
theorem lt2 (i : grid1.Coords) : (i 1).val < 2 := (i 1).isLt

/-- The block of a point is visited just if it starts before the length's end. -/
theorem cond3_iff (i : grid1.Coords) (v : BitVec 32) (h : LenOk v) : k1_cond3 i v = 1#1 ↔ (i 1).val * 1024 < v.toNat := by
  rw [cond3_def, blocks_eq v h]
  have h1 := lt2 i
  have h2 := h.1
  generalize (i 1).val = l at h1 ⊢
  obtain rfl | rfl : l = 0 ∨ l = 1 := by omega
  · split_ifs with hv
    · exact ⟨fun _ => by omega, fun _ => by decide⟩
    · exact ⟨fun _ => by omega, fun _ => by decide⟩
  · split_ifs with hv
    · exact ⟨fun h => absurd h (by decide), fun _ => by omega⟩
    · exact ⟨fun _ => by omega, fun _ => by decide⟩

/-- The block index a point reads: its own, or the last visited. -/
theorem blk_min (i : grid1.Coords) (v : BitVec 32) (h : LenOk v) :
    Scalar.minsi (BitVec.ofNat 32 (i 1).val) (Scalar.subi (blocks v) 1#32) = BitVec.ofNat 32 (if (i 1).val * 1024 < v.toNat then (i 1).val else 0) := by
  rw [blocks_eq v h]
  have h1 := lt2 i
  have h2 := h.1
  generalize (i 1).val = l at h1 ⊢
  obtain rfl | rfl : l = 0 ∨ l = 1 := by omega
  · split_ifs <;> decide
  · split_ifs with a b b
    · omega
    · decide
    · decide
    · omega

theorem off2_eq (i : grid1.Coords) (v : BitVec 32) (h : LenOk v) (h3 : k1_cond3 i v = 1#1) : k1_off2 i v = ![(i 0).val, (i 1).val, 0] := by
  rw [off2_def, blk_min i v h, if_pos ((cond3_iff i v h).mp h3)]
  have h0 := lt16 i
  have h1 := lt2 i
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, (BitVec.ofNat 32 (i 1).val).toNat, 0] = _
  rw [e0, e1]

theorem chk1 (i : grid1.Coords) (v : BitVec 32) (h : LenOk v) : k1_chk1 i v := by
  rw [k1_chk1]
  intro h3 a
  rw [off2_eq i v h h3]
  have h0 := lt16 i
  have h1 := lt2 i
  match a with
  | 0 => show (i 0).val + 1 ≤ 16; omega
  | 1 => show (i 1).val + 1 ≤ 2; omega
  | 2 => show 0 + 1024 ≤ 1024; omega

abbrev cond2 (i : grid1.Coords) : Prop := Scalar.cmpi .ne (Scalar.extui (Scalar.cmpi .eq (BitVec.ofNat 32 (i 1).val) 0#32)) 0#32 = 1#1

theorem cond1_iff : ∀ i : grid1.Coords, k1_cond1 i = 1#1 ↔ (i 0).val = 0 ∧ (i 1).val = 0 := by decide +kernel
theorem cond2_iff : ∀ i : grid1.Coords, cond2 i ↔ (i 1).val = 0 := by decide +kernel
theorem cond4_iff : ∀ i : grid1.Coords, k1_cond4 i = 1#1 ↔ (i 1).val = 1 := by decide +kernel

/-! ## The step -/

/-- Row `b` of the pooled rows. -/
def rowAt (o : Vec F S1x16x1024 .f32) (b : Fin 16) : Vec F S1x1x1024 .f32 := fun k => o (ix3 (0 : Fin 1) b (k 2 : Fin 1024))
/-- The pooled rows with row `b` replaced. -/
def putRow (o : Vec F S1x16x1024 .f32) (b : Fin 16) (v : Vec F S1x1x1024 .f32) : Vec F S1x16x1024 .f32 :=
  fun j => if (j 1).val = b.val then v (ix3 (0 : Fin 1) (0 : Fin 1) (j 2 : Fin 1024)) else o j
theorem rowAt_putRow (o : Vec F S1x16x1024 .f32) (b : Fin 16) (v : Vec F S1x1x1024 .f32) :
    rowAt (putRow o b v) b = fun k => v (ix3 (0 : Fin 1) (0 : Fin 1) (k 2 : Fin 1024)) := by
  funext k
  exact if_pos rfl
theorem putRow_last (o o' : Vec F S1x16x1024 .f32) (b : Fin 16) (v : Vec F S1x1x1024 .f32) (x : F .f32) :
    putRow (putRow o b v) b (k1_pay5 (rowAt (putRow o' b v) b) x) = putRow (putRow o b v) b (k1_pay5 (rowAt (putRow o b v) b) x) := by
  rw [rowAt_putRow, rowAt_putRow]
/-- The weights of block `l` of batch element `b`. -/
def wRow (w : Vec F S16x2x1024 .f32) (b : Fin 16) (l : Fin 2) : Vec F S1x1x1024 .f32 := fun k => w (ix3 b l (k 2 : Fin 1024))

/-- The state the grid points hand on: the pooled rows and the running sum of the weights. -/
abbrev St (F : FTy → Type) : Type := Vec F S1x16x1024 .f32 × F .f32

/-- What grid point `i` makes of it, given the length's word `v`, the block of features and the array of weights. -/
def step (i : grid1.Coords) (v : BitVec 32) (x : Vec F S1x1x1024x1024 .f32) (w : Vec F S16x2x1024 .f32) (s : St F) : St F :=
  let s1 : St F := (if (i 0).val = 0 ∧ (i 1).val = 0 then k1_pay1 else s.1, if (i 1).val = 0 then Scalar.ofBits .f32 0x00000000#32 else s.2)
  let s2 : St F := if (i 1).val * 1024 < v.toNat then
      (putRow s1.1 (i 0) (k1_pay3 i v x (wRow w (i 0) (i 1)) v (rowAt s1.1 (i 0))), k1_pay4 i v (wRow w (i 0) (i 1)) v s1.2)
    else s1
  (if (i 1).val = 1 then putRow s2.1 (i 0) (k1_pay5 (rowAt s2.1 (i 0)) s2.2) else s2.1, s2.2)

theorem step_first (i : grid1.Coords) (v : BitVec 32) (x : Vec F S1x1x1024x1024 .f32) (w : Vec F S16x2x1024 .f32) (s : St F)
    (h1 : (i 0).val = 0 ∧ (i 1).val = 0) (h3 : (i 1).val * 1024 < v.toNat) :
    step i v x w s = (putRow k1_pay1 (i 0) (k1_pay3 i v x (wRow w (i 0) (i 1)) v (rowAt k1_pay1 (i 0))),
      k1_pay4 i v (wRow w (i 0) (i 1)) v (Scalar.ofBits .f32 0x00000000#32)) := by
  unfold step
  have hc : ¬ (i 1).val = 1 := by rw [h1.2]; decide
  simp only [if_pos h1, if_pos h1.2, if_pos h3, if_neg hc]

theorem step_start (i : grid1.Coords) (v : BitVec 32) (x : Vec F S1x1x1024x1024 .f32) (w : Vec F S16x2x1024 .f32) (s : St F)
    (h0 : ¬ (i 0).val = 0) (h1 : (i 1).val = 0) (h3 : (i 1).val * 1024 < v.toNat) :
    step i v x w s = (putRow s.1 (i 0) (k1_pay3 i v x (wRow w (i 0) (i 1)) v (rowAt s.1 (i 0))),
      k1_pay4 i v (wRow w (i 0) (i 1)) v (Scalar.ofBits .f32 0x00000000#32)) := by
  unfold step
  have hc : ¬ ((i 0).val = 0 ∧ (i 1).val = 0) := fun h => h0 h.1
  have hc' : ¬ (i 1).val = 1 := by rw [h1]; decide
  simp only [if_neg hc, if_pos h1, if_pos h3, if_neg hc']

theorem step_last (i : grid1.Coords) (v : BitVec 32) (x : Vec F S1x1x1024x1024 .f32) (w : Vec F S16x2x1024 .f32) (s : St F)
    (h1 : (i 1).val = 1) (h3 : (i 1).val * 1024 < v.toNat) :
    step i v x w s = (putRow (putRow s.1 (i 0) (k1_pay3 i v x (wRow w (i 0) (i 1)) v (rowAt s.1 (i 0)))) (i 0)
        (k1_pay5 (rowAt (putRow s.1 (i 0) (k1_pay3 i v x (wRow w (i 0) (i 1)) v (rowAt s.1 (i 0)))) (i 0)) (k1_pay4 i v (wRow w (i 0) (i 1)) v s.2)),
      k1_pay4 i v (wRow w (i 0) (i 1)) v s.2) := by
  have h : ¬ (i 1).val = 0 := by rw [h1]; decide
  unfold step
  have hc : ¬ ((i 0).val = 0 ∧ (i 1).val = 0) := fun h' => h h'.2
  simp only [if_neg hc, if_neg h, if_pos h3, if_pos h1]

theorem step_skip (i : grid1.Coords) (v : BitVec 32) (x : Vec F S1x1x1024x1024 .f32) (w : Vec F S16x2x1024 .f32) (s : St F)
    (h1 : (i 1).val = 1) (h3 : ¬ (i 1).val * 1024 < v.toNat) :
    step i v x w s = (putRow s.1 (i 0) (k1_pay5 (rowAt s.1 (i 0)) s.2), s.2) := by
  have h : ¬ (i 1).val = 0 := by rw [h1]; decide
  unfold step
  have hc : ¬ ((i 0).val = 0 ∧ (i 1).val = 0) := fun h' => h h'.2
  simp only [if_neg hc, if_neg h, if_neg h3, if_pos h1]

/-! ## Reading the accesses -/

section Views

variable {sp : Space}

theorem readAt_row (v : View sig .tc sp S1x16x1024 .f32) (f : v.ty.Contents (Elt F)) (b : Fin 16) {off : Fin 3 → ℕ}
    (inb : ∀ a, off a + S1x1x1024.size a ≤ S1x16x1024.size a) (h : off = ![0, b.val, 0]) :
    v.readAt (Elt F) (Rect.unit (s := S1x16x1024) off S1x1x1024.size inb).toLoadRect f = rowAt (v.read (Elt F) f) b := by
  subst h
  funext k
  refine congrArg (v.read (Elt F) f) (funext fun a => Fin.ext ?_)
  have h0 : (k 0).val < 1 := (k 0).isLt
  have h1 : (k 1).val < 1 := (k 1).isLt
  match a with
  | 0 => show 0 + 1 * (k 0).val = 0; omega
  | 1 => show b.val + 1 * (k 1).val = b.val; omega
  | 2 => show 0 + 1 * (k 2).val = (k 2).val; omega

theorem readAt_wRow (v : View sig .tc sp S16x2x1024 .f32) (f : v.ty.Contents (Elt F)) (b : Fin 16) (l : Fin 2) {off : Fin 3 → ℕ}
    (inb : ∀ a, off a + S1x1x1024.size a ≤ S16x2x1024.size a) (h : off = ![b.val, l.val, 0]) :
    v.readAt (Elt F) (Rect.unit (s := S16x2x1024) off S1x1x1024.size inb).toLoadRect f = wRow (v.read (Elt F) f) b l := by
  subst h
  funext k
  refine congrArg (v.read (Elt F) f) (funext fun a => Fin.ext ?_)
  have h0 : (k 0).val < 1 := (k 0).isLt
  have h1 : (k 1).val < 1 := (k 1).isLt
  match a with
  | 0 => show b.val + 1 * (k 0).val = b.val; omega
  | 1 => show l.val + 1 * (k 1).val = l.val; omega
  | 2 => show 0 + 1 * (k 2).val = (k 2).val; omega

theorem read_putRow (v : View sig .tc sp S1x16x1024 .f32) (f : v.ty.Contents (Elt F)) (b : Fin 16) {off : Fin 3 → ℕ}
    (inb : ∀ a, off a + S1x1x1024.size a ≤ S1x16x1024.size a) (h : off = ![0, b.val, 0]) (w : Vec F S1x1x1024 .f32)
    (L : List (View.Piece (Elt F) S1x16x1024 .f32)) :
    v.read (Elt F) (v.writes (Elt F) f (⟨Rect.unit (s := S1x16x1024) off S1x1x1024.size inb, w⟩ :: L))
      = putRow (v.read (Elt F) (v.writes (Elt F) f L)) b w := by
  funext y
  unfold putRow
  split_ifs with hb
  · refine View.read_writes_cons_unit_of_mem (v := v) (f := f) inb w L y (ix3 (0 : Fin 1) (0 : Fin 1) (y 2 : Fin 1024)) h fun a => ?_
    have h0 : (y 0).val < 1 := (y 0).isLt

    match a with
    | 0 => show (y 0).val = 0 + 0; omega
    | 1 => show (y 1).val = b.val + 0; omega
    | 2 => show (y 2).val = 0 + (y 2).val; omega
  · refine View.read_writes_cons_unit_of_not_mem (v := v) (f := f) inb w L y h (1 : Fin 3) ?_

    show (y 1).val < b.val ∨ b.val + 1 ≤ (y 1).val
    omega

theorem read_putAll (v : View sig .tc sp S1x16x1024 .f32) (f : v.ty.Contents (Elt F))
    (inb : ∀ a, (![0, 0, 0] : Fin 3 → ℕ) a + S1x16x1024.size a ≤ S1x16x1024.size a) (w : Vec F S1x16x1024 .f32)
    (L : List (View.Piece (Elt F) S1x16x1024 .f32)) :
    v.read (Elt F) (v.writes (Elt F) f (⟨Rect.unit (s := S1x16x1024) ![0, 0, 0] S1x16x1024.size inb, w⟩ :: L)) = w := by
  funext y
  refine View.read_writes_cons_unit_of_mem (v := v) (f := f) inb w L y y rfl fun a => ?_
  match a with
  | 0 => show (y 0).val = 0 + (y 0).val; omega
  | 1 => show (y 1).val = 0 + (y 1).val; omega
  | 2 => show (y 2).val = 0 + (y 2).val; omega

theorem read_putOne (v : View sig .tc sp S1 .f32) (f : v.ty.Contents (Elt F)) (inb : ∀ a, (![0] : Fin 1 → ℕ) a + S1.size a ≤ S1.size a)
    (x : F .f32) (L : List (View.Piece (Elt F) S1 .f32)) :
    v.read (Elt F) (v.writes (Elt F) f (⟨Rect.unit (s := S1) ![0] S1.size inb, fun _ => x⟩ :: L)) = fun _ => x := by
  funext y
  refine View.read_writes_cons_unit_of_mem (v := v) (f := f) inb (fun _ => x) L y y rfl fun a => ?_
  match a with
  | 0 => show (y 0).val = 0 + (y 0).val; omega

end Views

/-- A table of lengths' word at a point. -/
def lenWord (f : Vec F S16 .i32) (i : grid1.Coords) : BitVec 32 := f (ix1 (i 0 : Fin 16))

/-- The one word of a one-word buffer. -/
theorem S1_eq (f : Vec F S1 .f32) (x : F .f32) (h : f (ix1 (0 : Fin 1)) = x) : f = fun _ => x := by
  funext k
  rw [← h]
  exact congrArg f (funext fun a => match a with | 0 => Fin.ext (by have h : (k 0).val < 1 := (k 0).isLt; show (k 0).val = 0; omega))

theorem readAt_len (f1 : Vec F S16 .i32) (i : grid1.Coords) {off : Fin 1 → ℕ}
    (inb : ∀ a, off a + S1.size a ≤ S16.size a) (h : off = ![(i 0).val]) (hn) :
    View.readAt (Elt F) (Memref.whole (main_arg1 : Ref sig .tc)).view (Rect.unit (s := S16) off S1.size inb).toLoadRect f1 (Shape.Idx.first (s := S1) hn) = lenWord f1 i := by
  subst h
  refine congrArg f1 (funext fun a => Fin.ext ?_)
  match a with
  | 0 => show (i 0).val + 1 * 0 = (i 0).val; omega
theorem readAt_one (f : Vec F S1 .f32) (inb : ∀ a, (![0] : Fin 1 → ℕ) a + S1.size a ≤ S1.size a) (hn) :
    View.readAt (Elt F) (Memref.whole (cc1_scratch0 : Ref sig .tc)).view (Rect.unit (s := S1) ![0] S1.size inb).toLoadRect f (Shape.Idx.first (s := S1) hn) = f (ix1 (0 : Fin 1)) := by
  refine congrArg f (funext fun a => Fin.ext ?_)
  match a with
  | 0 => show 0 + 1 * 0 = 0; omega

/-! ## The body at a point -/

section Body

variable (c : Dev nD) (i : grid1.Coords)
  (M3 : Memref sig .tc .vmem S1x1x1024x1024 .f32) (h3 : M3.IsWhole) (M4 : Memref sig .tc .vmem S16x2x1024 .f32) (h4 : M4.IsWhole)
  (M5 : Memref sig .tc .vmem S1x16x1024 .f32) (h5 : M5.IsWhole)
  (f1 : Buf (Elt F) ((Memref.whole main_arg1).view.loc (SparseCore.T c : Thread nD τ)))
  (f3 : Buf (Elt F) (M3.view.loc (SparseCore.T c : Thread nD τ))) (f4 : Buf (Elt F) (M4.view.loc (SparseCore.T c : Thread nD τ)))
  (f5 : Buf (Elt F) (M5.view.loc (SparseCore.T c : Thread nD τ))) (f6 : Buf (Elt F) ((Memref.whole cc1_scratch0).view.loc (SparseCore.T c : Thread nD τ)))

/-- The state the point makes of what its buffers hold. -/
abbrev stepOf : St F := step i (lenWord f1 i) (M3.view.read (Elt F) f3) (M4.view.read (Elt F) f4) (M5.view.read (Elt F) f5, (f6 : Vec F S1 .f32) (ix1 (0 : Fin 1)))

/-- What the body is run from, -/
abbrev bodyPre : sProp (MM F) :=
  iprop(((Memref.whole main_arg1).view.loc (SparseCore.T c : Thread nD τ) ↦{fullShare} f1) ∗ (M3.view.loc (SparseCore.T c : Thread nD τ) ↦{fullShare} f3) ∗ (M4.view.loc (SparseCore.T c : Thread nD τ) ↦{fullShare} f4)
    ∗ (M5.view.loc (SparseCore.T c : Thread nD τ) ↦{fullShare} f5) ∗ ((Memref.whole cc1_scratch0).view.loc (SparseCore.T c : Thread nD τ) ↦{fullShare} f6))
/-- and what it leaves: the pooled rows and the running sum stepped, the rest as it was. -/
abbrev bodyPost : sProp (MM F) :=
  iprop(((Memref.whole main_arg1).view.loc (SparseCore.T c : Thread nD τ) ↦{fullShare} f1) ∗ (M3.view.loc (SparseCore.T c : Thread nD τ) ↦{fullShare} f3) ∗ (M4.view.loc (SparseCore.T c : Thread nD τ) ↦{fullShare} f4)
    ∗ (∃ g5, ⌜M5.view.read (Elt F) g5 = (stepOf c i M3 M4 M5 f1 f3 f4 f5 f6).1⌝ ∗ (M5.view.loc (SparseCore.T c : Thread nD τ) ↦{fullShare} g5))
    ∗ (∃ g6 : Buf (Elt F) ((Memref.whole cc1_scratch0).view.loc (SparseCore.T c : Thread nD τ)), ⌜(g6 : Vec F S1 .f32) = fun _ => (stepOf c i M3 M4 M5 f1 f3 f4 f5 f6).2⌝
        ∗ ((Memref.whole cc1_scratch0).view.loc (SparseCore.T c : Thread nD τ) ↦{fullShare} g6)))
/-- The body at a point. -/
abbrev bodyWp (Q : PUnit → sProp (MM F)) : sProp (MM F) :=
  wp frame (wpE (defs₀ (F := F)) Variants.none (SparseCore.T c : Thread nD τ) none) Set.univ
    (cc1__tc_pool_body i (Memref.whole main_arg1) (Memref.isWhole_whole _) M3 h3 M4 h4 M5 h5 (Memref.whole cc1_scratch0) (Memref.isWhole_whole _)) Q

set_option maxHeartbeats 1000000 in
/-- The body at the first point of all. -/
theorem body_first (hl : LenOk (lenWord f1 i)) (c1 : k1_cond1 i = 1#1) (c2 : cond2 i) (c3 : k1_cond3 i (lenWord f1 i) = 1#1) (c4 : ¬ k1_cond4 i = 1#1) :
    bodyPre c M3 M4 M5 f1 f3 f4 f5 f6 ⊢ bodyWp c i M3 h3 M4 h4 M5 h5 fun _ => bodyPost c i M3 M4 M5 f1 f3 f4 f5 f6 := by
  have hk := chk1 i _ hl
  unfold bodyWp
  rw [cc1__tc_pool_body_eq_skeleton]; unfold cc1__tc_pool_body_skel
  iintro ⟨H1, H3, H4, H5, H6⟩
  sl_exec
  rw [show body_first.sl.r c i f1 = lenWord f1 i from readAt_len f1 i _ (k1_off1_eq i) _]
  sl_exec
  sl_step
  unfold bodyPost
  isplitl [H1]; · iexact H1
  isplitl [H3]; · iexact H3
  isplitl [H4]; · iexact H4
  have hs := step_first i (lenWord f1 i) (M3.view.read (Elt F) f3) (M4.view.read (Elt F) f4) (M5.view.read (Elt F) f5, (f6 : Vec F S1 .f32) (ix1 (0 : Fin 1))) ((cond1_iff i).mp c1) ((cond3_iff i _ hl).mp c3)
  isplitl [H5]
  · iexists _; isplitr
    swap; · iexact H5
    ipureintro
    unfold stepOf; rw [hs]
    rw [read_putRow _ _ (i 0) _ (k1_off4_eq i), View.readAt_full, readAt_wRow _ _ (i 0) (i 1) _ (off2_eq i _ hl c3), readAt_row _ _ (i 0) _ (k1_off4_eq i),
      show body_first.sl.r_2 c i f1 = lenWord f1 i from readAt_len f1 i _ (k1_off3_eq i) _]
    unfold body_first.sl.H5_1
    rw [read_putAll]
  · iexists _; isplitr
    swap; · iexact H6
    ipureintro
    unfold stepOf; rw [hs]
    rw [readAt_wRow _ _ (i 0) (i 1) _ (off2_eq i _ hl c3),
      show body_first.sl.r_2 c i f1 = lenWord f1 i from readAt_len f1 i _ (k1_off3_eq i) _]
    exact read_putOne (Memref.whole (cc1_scratch0 : Ref sig .tc)).view f6 inb_S1_S1_0 _ _

set_option maxHeartbeats 1000000 in
/-- The body at the first point of a later batch element. -/
theorem body_start (hl : LenOk (lenWord f1 i)) (c1 : ¬ k1_cond1 i = 1#1) (c2 : cond2 i) (c3 : k1_cond3 i (lenWord f1 i) = 1#1) (c4 : ¬ k1_cond4 i = 1#1) :
    bodyPre c M3 M4 M5 f1 f3 f4 f5 f6 ⊢ bodyWp c i M3 h3 M4 h4 M5 h5 fun _ => bodyPost c i M3 M4 M5 f1 f3 f4 f5 f6 := by
  have hk := chk1 i _ hl
  unfold bodyWp
  rw [cc1__tc_pool_body_eq_skeleton]; unfold cc1__tc_pool_body_skel
  iintro ⟨H1, H3, H4, H5, H6⟩
  sl_exec
  rw [show body_start.sl.r c i f1 = lenWord f1 i from readAt_len f1 i _ (k1_off1_eq i) _]
  sl_exec
  sl_step
  unfold bodyPost
  isplitl [H1]; · iexact H1
  isplitl [H3]; · iexact H3
  isplitl [H4]; · iexact H4
  have hs := step_start i (lenWord f1 i) (M3.view.read (Elt F) f3) (M4.view.read (Elt F) f4) (M5.view.read (Elt F) f5, (f6 : Vec F S1 .f32) (ix1 (0 : Fin 1))) (fun h => c1 ((cond1_iff i).mpr ⟨h, (cond2_iff i).mp c2⟩)) ((cond2_iff i).mp c2) ((cond3_iff i _ hl).mp c3)
  isplitl [H5]
  · iexists _; isplitr
    swap; · iexact H5
    ipureintro
    unfold stepOf; rw [hs]
    rw [read_putRow _ _ (i 0) _ (k1_off4_eq i), View.readAt_full, readAt_wRow _ _ (i 0) (i 1) _ (off2_eq i _ hl c3), readAt_row _ _ (i 0) _ (k1_off4_eq i),
      show body_start.sl.r_2 c i f1 = lenWord f1 i from readAt_len f1 i _ (k1_off3_eq i) _]
    rfl
  · iexists _; isplitr
    swap; · iexact H6
    ipureintro
    unfold stepOf; rw [hs]
    rw [readAt_wRow _ _ (i 0) (i 1) _ (off2_eq i _ hl c3),
      show body_start.sl.r_2 c i f1 = lenWord f1 i from readAt_len f1 i _ (k1_off3_eq i) _]
    exact read_putOne (Memref.whole (cc1_scratch0 : Ref sig .tc)).view f6 inb_S1_S1_0 _ _

set_option maxHeartbeats 1000000 in
/-- The body at the last point of a batch element, its block visited. -/
theorem body_last (hl : LenOk (lenWord f1 i)) (c1 : ¬ k1_cond1 i = 1#1) (c2 : ¬ cond2 i) (c3 : k1_cond3 i (lenWord f1 i) = 1#1) (c4 : k1_cond4 i = 1#1) :
    bodyPre c M3 M4 M5 f1 f3 f4 f5 f6 ⊢ bodyWp c i M3 h3 M4 h4 M5 h5 fun _ => bodyPost c i M3 M4 M5 f1 f3 f4 f5 f6 := by
  have hk := chk1 i _ hl
  unfold bodyWp
  rw [cc1__tc_pool_body_eq_skeleton]; unfold cc1__tc_pool_body_skel
  iintro ⟨H1, H3, H4, H5, H6⟩
  sl_exec
  rw [show body_last.sl.r c i f1 = lenWord f1 i from readAt_len f1 i _ (k1_off1_eq i) _]
  sl_exec
  sl_step
  unfold bodyPost
  isplitl [H1]; · iexact H1
  isplitl [H3]; · iexact H3
  isplitl [H4]; · iexact H4
  have hs := step_last i (lenWord f1 i) (M3.view.read (Elt F) f3) (M4.view.read (Elt F) f4) (M5.view.read (Elt F) f5, (f6 : Vec F S1 .f32) (ix1 (0 : Fin 1))) ((cond4_iff i).mp c4) ((cond3_iff i _ hl).mp c3)
  isplitl [H5]
  · iexists _; isplitr
    swap; · iexact H5
    ipureintro
    unfold stepOf; rw [hs]
    unfold body_last.sl.r_3 body_last.sl.v36 body_last.sl.H5_1 View.readCov
    rw [read_putRow _ _ (i 0) _ (k1_off5_eq i), read_putRow _ _ (i 0) _ (k1_off4_eq i), readAt_row _ _ (i 0) _ (k1_off5_eq i),
      read_putRow _ _ (i 0) _ (k1_off4_eq i), View.readAt_full, readAt_wRow _ _ (i 0) (i 1) _ (off2_eq i _ hl c3), readAt_row _ _ (i 0) _ (k1_off4_eq i),
      show body_last.sl.r_1 c i f1 = lenWord f1 i from readAt_len f1 i _ (k1_off3_eq i) _,
      show body_last.sl.r_2 (F := F) c f6 = (f6 : Vec F S1 .f32) (ix1 (0 : Fin 1)) from readAt_one f6 _ _]
    exact putRow_last _ _ (i 0) _ _
  · iexists _; isplitr
    swap; · iexact H6
    ipureintro
    unfold stepOf; rw [hs]
    rw [readAt_wRow _ _ (i 0) (i 1) _ (off2_eq i _ hl c3),
      show body_last.sl.r_1 c i f1 = lenWord f1 i from readAt_len f1 i _ (k1_off3_eq i) _]
    rw [show body_last.sl.r_2 (F := F) c f6 = (f6 : Vec F S1 .f32) (ix1 (0 : Fin 1)) from readAt_one f6 _ _]
    exact read_putOne (Memref.whole (cc1_scratch0 : Ref sig .tc)).view f6 inb_S1_S1_0 _ []

set_option maxHeartbeats 1000000 in
/-- The body at the last point of a batch element, its block not visited. -/
theorem body_skip (hl : LenOk (lenWord f1 i)) (c1 : ¬ k1_cond1 i = 1#1) (c2 : ¬ cond2 i) (c3 : ¬ k1_cond3 i (lenWord f1 i) = 1#1) (c4 : k1_cond4 i = 1#1) :
    bodyPre c M3 M4 M5 f1 f3 f4 f5 f6 ⊢ bodyWp c i M3 h3 M4 h4 M5 h5 fun _ => bodyPost c i M3 M4 M5 f1 f3 f4 f5 f6 := by
  have hk := chk1 i _ hl
  unfold bodyWp
  rw [cc1__tc_pool_body_eq_skeleton]; unfold cc1__tc_pool_body_skel
  iintro ⟨H1, H3, H4, H5, H6⟩
  sl_exec
  rw [show body_skip.sl.r c i f1 = lenWord f1 i from readAt_len f1 i _ (k1_off1_eq i) _]
  sl_exec
  sl_step
  unfold bodyPost
  isplitl [H1]; · iexact H1
  isplitl [H3]; · iexact H3
  isplitl [H4]; · iexact H4
  have hs := step_skip i (lenWord f1 i) (M3.view.read (Elt F) f3) (M4.view.read (Elt F) f4) (M5.view.read (Elt F) f5, (f6 : Vec F S1 .f32) (ix1 (0 : Fin 1))) ((cond4_iff i).mp c4) (fun h => c3 ((cond3_iff i _ hl).mpr h))
  isplitl [H5]
  · iexists _; isplitr
    swap; · iexact H5
    ipureintro
    unfold stepOf; rw [hs]
    rw [read_putRow _ _ (i 0) _ (k1_off5_eq i), readAt_row _ _ (i 0) _ (k1_off5_eq i)]
    rw [show body_skip.sl.r_1 (F := F) c f6 = (f6 : Vec F S1 .f32) (ix1 (0 : Fin 1)) from readAt_one f6 _ _]
    rfl
  · iexists _; isplitr
    swap; · iexact H6
    ipureintro
    unfold stepOf; rw [hs]
    exact S1_eq _ _ rfl

end Body

end Cert.Proof.Pool

end
-- ==== Proof.Region.lean ====
/-
  The TensorCore's part of the pooling kernel as one region: what its buffers hold at each grid point, the body's obligation
  from the one-point theorems, and the region entered from the three arrays and the table of lengths.
-/
module

public import proofs.«01_k».proof.Proof.Step
public import Idealize.ShloMosaic.Lib.Pipeline.RegionArraysT
public import Idealize.ShloMosaic.Lib.Pipeline.FrameBody
public import Idealize.ShloMosaic.Lib.Pipeline.ValueKit.Geometry

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

/-! ## The body at any point -/

section AnyPoint

variable (c : Dev nD) (i : grid1.Coords)
  (M3 : Memref sig .tc .vmem S1x1x1024x1024 .f32) (h3 : M3.IsWhole) (M4 : Memref sig .tc .vmem S16x2x1024 .f32) (h4 : M4.IsWhole)
  (M5 : Memref sig .tc .vmem S1x16x1024 .f32) (h5 : M5.IsWhole)
  (f1 : Buf (Elt F) ((Memref.whole main_arg1).view.loc (SparseCore.T c : Thread nD τ)))
  (f3 : Buf (Elt F) (M3.view.loc (SparseCore.T c : Thread nD τ))) (f4 : Buf (Elt F) (M4.view.loc (SparseCore.T c : Thread nD τ)))
  (f5 : Buf (Elt F) (M5.view.loc (SparseCore.T c : Thread nD τ))) (f6 : Buf (Elt F) ((Memref.whole cc1_scratch0).view.loc (SparseCore.T c : Thread nD τ)))

/-- The body at any point steps the state. -/
theorem body_at (hl : LenOk (lenWord f1 i)) :
    bodyPre c M3 M4 M5 f1 f3 f4 f5 f6 ⊢ bodyWp c i M3 h3 M4 h4 M5 h5 fun _ => bodyPost c i M3 M4 M5 f1 f3 f4 f5 f6 := by
  have h1 := lt2 i
  have hp := hl.1
  obtain e | e : (i 1).val = 0 ∨ (i 1).val = 1 := by omega
  · have c2 := (cond2_iff i).mpr e
    have c4 : ¬ k1_cond4 i = 1#1 := fun h => by have := (cond4_iff i).mp h; omega
    have c3 := (cond3_iff i _ hl).mpr (by rw [e]; omega)
    by_cases c1 : k1_cond1 i = 1#1
    · exact body_first c i M3 h3 M4 h4 M5 h5 f1 f3 f4 f5 f6 hl c1 c2 c3 c4
    · exact body_start c i M3 h3 M4 h4 M5 h5 f1 f3 f4 f5 f6 hl c1 c2 c3 c4
  · have c1 : ¬ k1_cond1 i = 1#1 := fun h => by have := ((cond1_iff i).mp h).2; omega
    have c2 : ¬ cond2 i := fun h => by have := (cond2_iff i).mp h; omega
    have c4 := (cond4_iff i).mpr e
    by_cases c3 : k1_cond3 i (lenWord f1 i) = 1#1
    · exact body_last c i M3 h3 M4 h4 M5 h5 f1 f3 f4 f5 f6 hl c1 c2 c3 c4
    · exact body_skip c i M3 h3 M4 h4 M5 h5 f1 f3 f4 f5 f6 hl c1 c2 c3 c4

end AnyPoint

/-- The first point ignores the state it finds. -/
theorem step_any (i : grid1.Coords) (v : BitVec 32) (x : Vec F S1x1x1024x1024 .f32) (w : Vec F S16x2x1024 .f32) (s s' : St F)
    (h1 : (i 0).val = 0 ∧ (i 1).val = 0) : step i v x w s = step i v x w s' := by
  unfold step
  simp only [if_pos h1, if_pos h1.2]

/-! ## The blocks, and the state before each point -/

theorem blk_lt (i : grid1.Coords) (v : BitVec 32) (k : Fin 1024) : (if (i 1).val * 1024 < v.toNat then (i 1).val else 0) * 1024 + k.val < 2048 := by
  have h1 := lt2 i
  have hk := k.isLt
  split_ifs <;> omega

/-- The block of features a point reads: its own, or the first where its own is past the length. -/
def xBlk (X0 : Vec F S16x2x2048x1024 .f32) (l : Vec F S16 .i32) (i : grid1.Coords) : Vec F S1x1x1024x1024 .f32 :=
  fun k => X0 (ix4 (i 0 : Fin 16) (1 : Fin 2) (⟨_, blk_lt i (lenWord l i) (k 2)⟩ : Fin 2048) (k 3 : Fin 1024))

/-- The state before point `n`: the points' steps, one after the other. -/
def stAt (X0 : Vec F S16x2x2048x1024 .f32) (l : Vec F S16 .i32) (W1 : Vec F S16x2x1024 .f32) : ℕ → St F
  | 0 => (k1_pay1, Scalar.ofBits .f32 0x00000000#32)
  | n + 1 => if h : n < grid1.N then
      step (grid1.coords ⟨n, h⟩) (lenWord l (grid1.coords ⟨n, h⟩)) (xBlk X0 l (grid1.coords ⟨n, h⟩)) W1 (stAt X0 l W1 n)
    else stAt X0 l W1 n

theorem stAt_succ (X0 : Vec F S16x2x2048x1024 .f32) (l : Vec F S16 .i32) (W1 : Vec F S16x2x1024 .f32) (t : Fin grid1.N) :
    stAt X0 l W1 (t.val + 1) = step (grid1.coords t) (lenWord l (grid1.coords t)) (xBlk X0 l (grid1.coords t)) W1 (stAt X0 l W1 t.val) :=
  dif_pos t.isLt

theorem coords_zero : ∀ t : Fin grid1.N, t.val = 0 → (grid1.coords t 0).val = 0 ∧ (grid1.coords t 1).val = 0 := by decide +kernel

/-! ## The pipeline at its table -/

/-- The block of features a point's window takes from a table of lengths. -/
theorem transform_raw (pf : pre1.Contents (Elt F)) (i : grid1.Coords) (h : LenOk (lenWord (show Vec F S16 .i32 from pf 0) i)) :
    Cert.KernelIdeal.ix1 pf 0 i = ![(i 0).val, 1, if (i 1).val * 1024 < (lenWord (show Vec F S16 .i32 from pf 0) i).toNat then (i 1).val else 0, 0] := by
  have e : pf.at 0 (Rect.unit (s := S16) ![(Scalar.indexCast (BitVec.ofNat 32 (i 0).val)).toNat] S1.size (k1_off1_inb i)) numel1_S1 = lenWord (show Vec F S16 .i32 from pf 0) i := by
    refine congrArg (show Vec F S16 .i32 from pf 0) (funext fun (b : Fin 1) => Fin.ext ?_)
    match b with
    | 0 =>
      have h0 := lt16 i
      show (BitVec.ofNat 32 (i 0).val).toNat + 1 * 0 = (i 0).val
      rw [BitVec.toNat_ofNat]; omega
  have u : Cert.KernelIdeal.ix1 pf 0 i = ![(BitVec.ofNat 32 (i 0).val).toNat, 1,
      (Scalar.minsi (BitVec.ofNat 32 (i 1).val) (Scalar.subi (blocks (pf.at 0 (Rect.unit (s := S16) ![(Scalar.indexCast (BitVec.ofNat 32 (i 0).val)).toNat] S1.size (k1_off1_inb i)) numel1_S1)) 1#32)).toNat, 0] := rfl
  rw [u, e, blk_min i _ h]
  have h0 := lt16 i
  have h1 := lt2 i
  rw [BitVec.toNat_ofNat, BitVec.toNat_ofNat, Nat.mod_eq_of_lt (by omega), Nat.mod_eq_of_lt (by split_ifs <;> omega)]

/-- Lengths in range are a table the pipeline admits. -/
theorem ok_of_len (pf : pre1.Contents (Elt F)) (hl : ∀ i, LenOk (lenWord (show Vec F S16 .i32 from pf 0) i)) : ok1 pf := fun i => by
  have e := transform_raw pf i (hl i)
  have h0 := lt16 i
  have h1 := lt2 i
  refine ⟨fun (b : Fin 4) => ?_, Or.inl rfl⟩
  show (Cert.KernelIdeal.ix1 pf 0 i b + 1) * _ ≤ _
  rw [e]
  match b with
  | 0 => show ((i 0).val + 1) * 1 ≤ 16; omega
  | 1 => show (1 + 1) * 1 ≤ 2; omega
  | 2 => show ((if _ then (i 1).val else 0) + 1) * 1024 ≤ 2048; split_ifs <;> omega
  | 3 => show (0 + 1) * 1024 ≤ 1024; omega

section Table

variable (a : AdmF F)

/-- The table of lengths the pipeline runs at. -/
def lens : Vec F S16 .i32 := (a 0).1 0

theorem transform_eq (i : grid1.Coords) (h : LenOk (lenWord (lens a) i)) :
    Cert.KernelIdeal.ix1 (a 0).1 0 i = ![(i 0).val, 1, if (i 1).val * 1024 < (lenWord (lens a) i).toNat then (i 1).val else 0, 0] :=
  transform_raw (a 0).1 i h

/-- Where an access at a point's length reads the table. -/
theorem atD_eq (i : grid1.Coords) : (a 0).1.atD 0 (k1_off1 i) = lenWord (lens a) i := by
  have h0 := lt16 i
  have hb : ∀ b, k1_off1 i b + 1 ≤ (pre1.ref 0).ty.shape.size b := fun b => by
    rw [k1_off1_eq]
    match b with
    | 0 => show (i 0).val + 1 ≤ 16; omega
  refine (dif_pos hb).trans (congrArg (lens a) (funext fun (b : Fin 1) => Fin.ext ?_))
  match b with
  | 0 => show k1_off1 i 0 = (i 0).val; rw [k1_off1_eq]; rfl

/-- No window is idle at any point. -/
theorem live (hl : ∀ i, LenOk (lenWord (lens a) i)) (w : Fin 3) (i : grid1.Coords) : (pinned a 0).idle w i = false := by
  match w with
  | 0 => rfl
  | 1 => rfl
  | 2 =>
    show (!(k1_cond1 i == 1#1) && !(k1_cond3 i ((a 0).1.atD 0 (k1_off1 i)) == 1#1) && !(k1_cond4 i == 1#1)) = false
    rw [atD_eq]
    have h1 := lt2 i
    have hp := (hl i).1
    obtain e | e : (i 1).val = 0 ∨ (i 1).val = 1 := by omega
    · rw [(cond3_iff i _ (hl i)).mpr (by rw [e]; omega)]
      simp
    · rw [(cond4_iff i).mpr e]
      simp

end Table

/-! ## The region's proof data -/

section Data

variable (a : AdmF F) (X0 : Vec F S16x2x2048x1024 .f32) (W1 : Vec F S16x2x1024 .f32) (O : Vec F S1x16x1024 .f32)

/-- The invariant before point `n`: the running sum in its buffer (from the first point on), and the table. -/
def PhiR (c : Dev nD) (n : ℕ) : sProp (MM F) :=
  iprop((∃ f6 : Buf (Elt F) ((Memref.whole cc1_scratch0).view.loc (SparseCore.T c : Thread nD τ)),
      ⌜n ≠ 0 → (f6 : Vec F S1 .f32) = fun _ => (stAt X0 (lens a) W1 n).2⌝
        ∗ ((Memref.whole cc1_scratch0).view.loc (SparseCore.T c : Thread nD τ) ↦{fullShare} f6))
    ∗ ((Memref.whole main_arg1).view.loc (SparseCore.T c : Thread nD τ) ↦{fullShare} lens a))

/-- The arrays at entry, and what each staging buffer holds after each point: the inputs' blocks, and the pooled rows stepped. -/
def dat (c : Dev nD) : Dat τ (Elt F) (HIx 1) ℕ UU ℕ (pinned a 0) c where
  A w := match w with
    | ⟨0, _⟩ => X0
    | ⟨1, _⟩ => W1
    | ⟨2, _⟩ => O
  after w t := match w with
    | ⟨0, _⟩ => xBlk X0 (lens a) (grid1.coords t)
    | ⟨1, _⟩ => W1
    | ⟨2, _⟩ => (stAt X0 (lens a) W1 (t.val + 1)).1
  Φ t := PhiR a X0 W1 c t.val
  q _ := fullShare
  owed _ := 0

/-- The one pipeline's proof data. -/
def pdats : (p : Fin 1) → (c : Dev nD) → Dat τ (Elt F) (HIx 1) ℕ UU ℕ (Pipeline.pin (pcfgs (F := F)) a p) c
  | ⟨0, _⟩ => dat a X0 W1 O

theorem blockOf_zero (hl : ∀ i, LenOk (lenWord (lens a) i)) (c : Dev nD) (t : Fin (pinned a 0).N) :
    (dat a X0 W1 O c).blockOf 0 t = xBlk X0 (lens a) (grid1.coords t) := by
  have e := transform_eq a (grid1.coords t) (hl _)
  funext (k : S1x1x1024x1024.Idx)
  refine congrArg X0 (funext fun (b : Fin 4) => Fin.ext ?_)
  have h0 : (k 0).val < 1 := (k 0).isLt
  have h1 : (k 1).val < 1 := (k 1).isLt
  match b with
  | 0 =>
    show Cert.KernelIdeal.ix1 (a 0).1 0 (grid1.coords t) 0 * 1 + 1 * (k 0).val = (grid1.coords t 0).val
    rw [e]; show (grid1.coords t 0).val * 1 + 1 * (k 0).val = _; omega
  | 1 =>
    show Cert.KernelIdeal.ix1 (a 0).1 0 (grid1.coords t) 1 * 1 + 1 * (k 1).val = 1
    rw [e]; show 1 * 1 + 1 * (k 1).val = _; omega
  | 2 =>
    show Cert.KernelIdeal.ix1 (a 0).1 0 (grid1.coords t) 2 * 1024 + 1 * (k 2).val = _
    rw [e]; exact congrArg (_ + ·) (Nat.one_mul _)
  | 3 =>
    show Cert.KernelIdeal.ix1 (a 0).1 0 (grid1.coords t) 3 * 1024 + 1 * (k 3).val = (k 3).val
    rw [e]; show 0 * 1024 + 1 * (k 3).val = _; omega

theorem blockOf_one (c : Dev nD) (t : Fin (pinned a 0).N) : (dat a X0 W1 O c).blockOf 1 t = W1 := by
  funext (k : S16x2x1024.Idx)
  refine congrArg W1 (funext fun (b : Fin 3) => Fin.ext ?_)
  match b with
  | 0 => show 0 * 16 + 1 * (k 0).val = (k 0).val; omega
  | 1 => show 0 * 2 + 1 * (k 1).val = (k 1).val; omega
  | 2 => show 0 * 1024 + 1 * (k 2).val = (k 2).val; omega

theorem before_zero (hl : ∀ i, LenOk (lenWord (lens a) i)) (c : Dev nD) (t : Fin (pinned a 0).N) (d) :
    (dat a X0 W1 O c).before 0 t d = xBlk X0 (lens a) (grid1.coords t) :=
  ((dat a X0 W1 O c).before_in_eq_fetched 0 rfl (live a hl 0) (fun _ _ _ => rfl) (fun t => (blockOf_zero a X0 W1 O hl c t).symm) t d).trans
    (blockOf_zero a X0 W1 O hl c t)

theorem before_one (hl : ∀ i, LenOk (lenWord (lens a) i)) (c : Dev nD) (t : Fin (pinned a 0).N) (d) :
    (dat a X0 W1 O c).before 1 t d = W1 :=
  ((dat a X0 W1 O c).before_in_eq_fetched 1 rfl (live a hl 1) (fun _ _ _ => rfl) (fun t => (blockOf_one a X0 W1 O c t).symm) t d).trans
    (blockOf_one a X0 W1 O c t)

theorem flush_two (t : Fin (pinned a 0).N) (h : t.val + 1 < 32) : ((pinned a 0).win 2).flush t = false := by
  have hN : (pinned a 0).grid.N = 32 := N_1
  unfold Pipeline.Window.flush
  rw [Bool.and_eq_false_iff]; right
  rw [Bool.or_eq_false_iff]
  refine ⟨decide_eq_false (by omega), decide_eq_false ?_⟩
  rintro ⟨_, hne⟩
  exact hne rfl

theorem before_two (hl : ∀ i, LenOk (lenWord (lens a) i)) (c : Dev nD) (t : Fin (pinned a 0).N) (ht : t.val ≠ 0) (d) :
    (dat a X0 W1 O c).before 2 t d = (stAt X0 (lens a) W1 t.val).1 := by
  have hN : (pinned a 0).N = 32 := N_1
  have hlt := t.isLt
  rw [(dat a X0 W1 O c).before_out_kept 2 rfl t ht (flush_two a _ (by show t.val - 1 + 1 < 32; omega)) (live a hl 2) (fun _ _ => rfl) d]
  show (stAt X0 (lens a) W1 (t.val - 1 + 1)).1 = _
  rw [Nat.sub_add_cancel (Nat.one_le_iff_ne_zero.mpr ht)]

/-- The body's obligation, at every point. -/
theorem body_obligation (hl : ∀ i, LenOk (lenWord (lens a) i)) (c : Dev nD) :
    BodyObligation (dat a X0 W1 O c) (defs₀ (F := F)) 𝒱₀ none Set.univ := fun t => by
  rw [bigSep_W1, bigSep_W1]
  have hN : grid1.N = 32 := N_1
  rw [show (dat a X0 W1 O c).Φ t.castSucc = PhiR a X0 W1 c t.val from rfl, show (dat a X0 W1 O c).Φ t.succ = PhiR a X0 W1 c (t.val + 1) from rfl,
    show (dat a X0 W1 O c).owesAt none t.succ = (dat a X0 W1 O c).owesAt none t.castSucc from rfl]
  simp only [before_zero a X0 W1 O hl, before_one a X0 W1 O hl]
  have hi : idle1 (a 0).1 2 (((pcfgs 0).gridAt (a 0).1).coords t) = false := live a hl 2 _
  simp only [hi]
  unfold owns
  rw [(hstage1_0 ((pinned a 0).slots t 0)).set_eq_univ, (hstage1_1 ((pinned a 0).slots t 1)).set_eq_univ, (hstage1_2 ((pinned a 0).slots t 2)).set_eq_univ]
  iintro ⟨HΦ, Howes, ⟨%d0, %f0, %hf0, H0⟩, ⟨%d1, %f1, %hf1, H1⟩, ⟨%d2, %f2, %hf2, H2⟩⟩
  unfold PhiR
  icases HΦ with ⟨⟨%f6, %hf6, H6⟩, H7⟩
  have e0 := hf0.trans (before_zero a X0 W1 O hl c t d0)
  have e1 := hf1.trans (before_one a X0 W1 O hl c t d1)
  have hst : step (grid1.coords t) (lenWord (lens a) (grid1.coords t)) ((stage1_0 ((pinned a 0).slots t 0)).view.read (Elt F) f0)
      ((stage1_1 ((pinned a 0).slots t 1)).view.read (Elt F) f1)
      ((stage1_2 ((pinned a 0).slots t 2)).view.read (Elt F) f2, (f6 : Vec F S1 .f32) (ix1 (0 : Fin 1))) = stAt X0 (lens a) W1 (t.val + 1) := by
    refine (congrArg₂ (fun x w => step (grid1.coords t) (lenWord (lens a) (grid1.coords t)) x w _) e0 e1).trans ?_
    refine Eq.trans ?_ (stAt_succ X0 (lens a) W1 t).symm
    by_cases ht : t.val = 0
    · exact step_any _ _ _ _ _ _ (coords_zero t ht)
    · exact congrArg _ (Prod.ext (hf2.trans (before_two a X0 W1 O hl c t ht d2)) (congrFun (hf6 ht) _))
  have hb := body_at (F := F) c (grid1.coords t) (stage1_0 ((pinned a 0).slots t 0)) (hstage1_0 _) (stage1_1 ((pinned a 0).slots t 1)) (hstage1_1 _)
    (stage1_2 ((pinned a 0).slots t 2)) (hstage1_2 _) (lens a) f0 f1 f2 f6 (hl _)
  iapply (wp_wand_r frame (wpE (defs₀ (F := F)) 𝒱₀ (SparseCore.T c : Thread nD τ) none) Set.univ)
  isplitl [H7 H0 H1 H2 H6]
  · iapply hb
    unfold bodyPre
    isplitl [H7]; · iexact H7
    isplitl [H0]; · iexact H0
    isplitl [H1]; · iexact H1
    isplitl [H2]; · iexact H2
    iexact H6
  · iintro %_ ⟨H7, H0, H1, ⟨%g5, %hg5, H2⟩, ⟨%g6, %hg6, H6⟩⟩
    have q5 := hg5.trans (congrArg Prod.fst hst)
    have q6 := hg6.trans (congrArg (fun (s : St F) => fun _ => s.2) hst)
    isplitl [H6 H7]
    · isplitl [H6]
      · iexists g6; isplitr; · ipureintro; exact fun _ => q6
        iexact H6
      iexact H7
    isplitl [Howes]; · iexact Howes
    isplitl [H0]; · iexists f0; isplitr; · ipureintro; exact e0
                    iexact H0
    isplitl [H1]; · iexists f1; isplitr; · ipureintro; exact e1
                    iexact H1
    iexists g5; isplitr; · ipureintro; exact q5
    iexact H2

end Data

end Cert.Proof.Pool

end
-- ==== Proof.RegionRun.lean ====
/-
  The TensorCore's part of the pooling kernel run as one region: entered from its three arrays and the table of lengths, left
  with the pooled rows in the output array.
-/
module

public import proofs.«01_k».proof.Proof.Region

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

section Run

variable (a : AdmF F) (X0 : Vec F S16x2x2048x1024 .f32) (W1 : Vec F S16x2x1024 .f32) (O : Vec F S1x16x1024 .f32)

/-- The last point of the grid. -/
def tLast : Fin (pinned a 0).N := ⟨31, by have : (pinned a 0).N = 32 := N_1; omega⟩

/-- The output is written back once, whole, at the last point. -/
theorem wholeAt_two : ((pinned a 0).win 2).WholeAt (tLast a) := by
  have hN : (pinned a 0).grid.N = 32 := N_1
  refine ⟨?_, fun t h => ?_, fun b => ?_⟩
  · unfold Pipeline.Window.flush
    rw [Bool.and_eq_true_iff]
    refine ⟨rfl, ?_⟩
    rw [Bool.or_eq_true_iff]; left
    exact decide_eq_true (by show 31 + 1 = _; omega)
  · by_contra hne
    have hv : t.val ≠ 31 := fun e => hne (Fin.ext e)
    have := t.isLt
    have hN' : (pinned a 0).N = 32 := N_1
    rw [flush_two a t (by omega)] at h
    exact Bool.false_ne_true h
  · match b with
    | ⟨0, _⟩ => exact ⟨rfl, rfl⟩
    | ⟨1, _⟩ => exact ⟨rfl, rfl⟩
    | ⟨2, _⟩ => exact ⟨rfl, rfl⟩

/-- The output array after the region: the pooled rows after the last point. -/
theorem final_two (c : Dev nD) : (dat a X0 W1 O c).arrAt 2 (pinned a 0).N = (stAt X0 (lens a) W1 32).1 :=
  (dat a X0 W1 O c).arrAt_eq_of_after_last 2 (tLast a) (wholeAt_two a) (stAt X0 (lens a) W1 32).1
    (fun (j : S1x16x1024.Idx) => by
      refine (cast_eq _ _).trans ?_
      refine (show (stAt X0 (lens a) W1 ((tLast a).val + 1)).1 _ = _ from ?_)
      refine congrArg (stAt X0 (lens a) W1 32).1 ?_
      rfl) (Memref.isWhole_whole _)

/-- The invariant before the first point. -/
theorem phi_in (c : Dev nD) :
    iprop(iprop(Pipeline.scopedRest (Pipeline.pin (pcfgs (F := F)) a 0).spec c ∗ emp) ∗ Pipeline.tablesAt (pcfgs (F := F)) a 0 c)
      ⊢ (pdats a X0 W1 O 0 c).Φ 0 := by
  have hs := scopedRest1_eq (Ix := HIx 1) (Val := Elt F) (Name := ℕ) (U := UU) (Lvl := ℕ) c
  have ht : (Pipeline.tablesAt (pcfgs (F := F)) a 0 c : sProp (MM F))
      = ((Memref.whole main_arg1).view.loc (SparseCore.T c : Thread nD τ) ↦{fullShare} lens a) := bigSep_univ_of_subsingleton (0 : Fin 1)
  refine (show _ ⊢ PhiR a X0 W1 c 0 from ?_)
  rw [ht]
  unfold PhiR
  iintro ⟨⟨Hr, -⟩, Ht⟩
  ihave Hr' := (Entails.of_eq hs) $$ Hr
  icases Hr' with ⟨%f, Hr'⟩
  isplitl [Hr']
  · iexists f
    isplitr
    · ipureintro; exact fun h => absurd rfl h
    iexact Hr'
  iexact Ht

/-- The invariant after the last point. -/
theorem phi_out (c : Dev nD) :
    (pdats a X0 W1 O 0 c).Φ (Fin.last (Pipeline.pin (pcfgs (F := F)) a 0).N)
      ⊢ iprop(iprop(Pipeline.scopedRest (Pipeline.pin (pcfgs (F := F)) a 0).spec c ∗ emp) ∗ Pipeline.tablesAt (pcfgs (F := F)) a 0 c) := by
  have hs := scopedRest1_eq (Ix := HIx 1) (Val := Elt F) (Name := ℕ) (U := UU) (Lvl := ℕ) c
  have ht : (Pipeline.tablesAt (pcfgs (F := F)) a 0 c : sProp (MM F))
      = ((Memref.whole main_arg1).view.loc (SparseCore.T c : Thread nD τ) ↦{fullShare} lens a) := bigSep_univ_of_subsingleton (0 : Fin 1)
  refine (show PhiR a X0 W1 c _ ⊢ _ from ?_)
  rw [ht]
  unfold PhiR
  iintro ⟨⟨%f, -, Hr⟩, Ht⟩
  isplitl [Hr]
  · isplitl [Hr]
    · iapply (Entails.of_eq hs.symm)
      iexists f
      iexact Hr
    iempintro
  iexact Ht

/-- The region's record. -/
def reg (hl : ∀ i, LenOk (lenWord (lens a) i)) :
    Pipeline.RegionSeg (pcfgs (F := F)) a (pdats a X0 W1 O) none (defs₀ (F := F)) 𝒱₀ (K (F := F)).L (K (F := F)).lev 0 :=
  Pipeline.RegionSeg.ofArraysT (pcfgs (F := F)) a (pdats a X0 W1 O) none (defs₀ (F := F)) 𝒱₀ (K (F := F)).L (K (F := F)).lev 0 (fun _ => 0)
    (fun _ => iprop(emp)) (fun _ => iprop(emp)) launch1.to₀ (fun c => (body_obligation a X0 W1 O hl c).loose) (fun _ _ => rfl) (fun _ => rfl)
    (phi_in a X0 W1 O) (phi_out a X0 W1 O)
    (fun _ => 0)
    { hι := fun _ _ _ => Finset.mem_univ _
      hιb := fun _ _ _ => le_rfl
      hD := fun _ _ _ h => absurd h (lt_irrefl 0) }
    (fun _ => iprop(emp))

/-- What the region runs on, at output contents `f`. -/
def regAt (f : Vec F S1x16x1024 .f32) (c : Dev nD) : sProp (MM F) :=
  iprop(((SparseCore.T c : Thread nD τ).loc main_arg0 ↦{fullShare} X0) ∗ ((SparseCore.T c : Thread nD τ).loc main_v1 ↦{fullShare} W1)
    ∗ ((SparseCore.T c : Thread nD τ).loc main_v2 ↦{fullShare} f) ∗ ((SparseCore.T c : Thread nD τ).loc main_arg1 ↦{fullShare} lens a)
    ∗ ∃ W, owes (SparseCore.T c : Thread nD τ) 0 W)

theorem arrays_eq (c : Dev nD) (A : (w : Fin 3) → Buf (Elt F) (((pinned a 0).win w).arr.view.loc (c.tc : Thread nD τ))) :
    ((dat a X0 W1 O c).arrays A : sProp (MM F))
      = iprop(((SparseCore.T c : Thread nD τ).loc main_arg0 ↦{fullShare} A 0) ∗ ((SparseCore.T c : Thread nD τ).loc main_v1 ↦{fullShare} A 1)
        ∗ ((SparseCore.T c : Thread nD τ).loc main_v2 ↦{fullShare} A 2)) := by
  unfold Dat.arrays
  rw [bigSep_W1, (dat a X0 W1 O c).share_full (fun _ => rfl), (dat a X0 W1 O c).share_full (fun _ => rfl), (dat a X0 W1 O c).share_full (fun _ => rfl)]
  rw [(arr_whole1 0).set_eq_univ, (arr_whole1 1).set_eq_univ, (arr_whole1 2).set_eq_univ]

theorem pre_eq (hl : ∀ i, LenOk (lenWord (lens a) i)) (c : Dev nD) : regAt a X0 W1 O c ⊢ (reg a X0 W1 O hl).pre c := by
  have ht : (Pipeline.tablesAt (pcfgs (F := F)) a 0 c : sProp (MM F))
      = ((Memref.whole main_arg1).view.loc (SparseCore.T c : Thread nD τ) ↦{fullShare} lens a) := bigSep_univ_of_subsingleton (0 : Fin 1)
  refine (show _ ⊢ iprop((dat a X0 W1 O c).arrays ((dat a X0 W1 O c).arrAt · 0) ∗ Pipeline.tablesAt (pcfgs (F := F)) a 0 c ∗ emp ∗ emp
    ∗ ∃ W, owes (SparseCore.T c : Thread nD τ) 0 W) from ?_)
  rw [ht, arrays_eq]
  unfold regAt
  iintro ⟨H0, H1, H2, Ht, Ho⟩
  isplitl [H0 H1 H2]
  · isplitl [H0]; · iexact H0
    isplitl [H1]; · iexact H1
    iexact H2
  isplitl [Ht]; · iexact Ht
  isplitr; · iempintro
  isplitr; · iempintro
  iexact Ho

theorem post_eq (hl : ∀ i, LenOk (lenWord (lens a) i)) (c : Dev nD) :
    (reg a X0 W1 O hl).post c ⊢ regAt a X0 W1 (stAt X0 (lens a) W1 32).1 c := by
  have ht : (Pipeline.tablesAt (pcfgs (F := F)) a 0 c : sProp (MM F))
      = ((Memref.whole main_arg1).view.loc (SparseCore.T c : Thread nD τ) ↦{fullShare} lens a) := bigSep_univ_of_subsingleton (0 : Fin 1)
  refine (show iprop((dat a X0 W1 O c).arrays ((dat a X0 W1 O c).arrAt · (pinned a 0).N) ∗ Pipeline.tablesAt (pcfgs (F := F)) a 0 c ∗ emp ∗ emp
    ∗ ∃ W, owes (SparseCore.T c : Thread nD τ) 0 W) ⊢ _ from ?_)
  have e0 : (dat a X0 W1 O c).arrAt 0 (pinned a 0).N = X0 := (dat a X0 W1 O c).arrAt_in 0 rfl _
  have e1 : (dat a X0 W1 O c).arrAt 1 (pinned a 0).N = W1 := (dat a X0 W1 O c).arrAt_in 1 rfl _
  rw [ht, arrays_eq, e0, e1, final_two]
  unfold regAt
  iintro ⟨⟨H0, H1, H2⟩, Ht, -, -, Ho⟩
  isplitl [H0]; · iexact H0
  isplitl [H1]; · iexact H1
  isplitl [H2]; · iexact H2
  isplitl [Ht]; · iexact Ht
  iexact Ho

/-- The region, in the pipeline's own program: the output array ends with the pooled rows after the last point. -/
theorem region_wp₀ (hl : ∀ i, LenOk (lenWord (lens a) i)) (c : Dev nD) (Φ : PUnit → sProp (MM F)) :
    iprop((iprop(boundary (SparseCore.T c : Thread nD τ) ∗ regAt a X0 W1 (stAt X0 (lens a) W1 32).1 c) -∗ Φ ⟨⟩)
        ∗ boundary (SparseCore.T c : Thread nD τ) ∗ regAt a X0 W1 O c ∗ levAts (K (F := F)).L (K (F := F)).lev ∗ G a c)
      ⊢ wp frame (wpE (D (F := F)) 𝒱 (SparseCore.T c : Thread nD τ) none) Set.univ
          (.op (.customCall (Pipeline.entry 0) ()) fun _ => .ret ⟨⟩) Φ := by
  have w := Pipeline.RegionSeg.wp (pcfgs (F := F)) a (pdats a X0 W1 O) none (cellOf_inj a) EP (defs₀ (F := F)) 𝒱₀ (K (F := F)).L (K (F := F)).lev
    (reg a X0 W1 O hl) c none (fun _ h => nomatch h) (fun _ => .ret ⟨⟩) Φ
  refine BIBase.Entails.trans ?_ w
  rw [wp_ret]
  unfold G
  have h1 := pre_eq a X0 W1 O hl c
  have h2 := post_eq a X0 W1 O hl c
  generalize (reg a X0 W1 O hl).pre c = A at h1 ⊢
  generalize (reg a X0 W1 O hl).post c = B at h2 ⊢
  iintro ⟨Hk, Hb, Hr, Hl, Hg, Ht⟩
  isplitl [Hk]
  · iintro ⟨Hb, Hr⟩
    imodintro
    iapply Hk
    isplitl [Hb]; · iexact Hb
    iapply h2
    iexact Hr
  isplitl [Hb]; · iexact Hb
  isplitl [Hr]
  · iapply h1
    iexact Hr
  isplitl [Hl]; · iexact Hl
  isplitl [Hg] <;> iassumption

/-- The region, run from @main. -/
theorem region_wp (hl : ∀ i, LenOk (lenWord (lens a) i)) (c : Dev nD) (Φ : PUnit → sProp (MM F)) :
    iprop((iprop(boundary (SparseCore.T c : Thread nD τ) ∗ regAt a X0 W1 (stAt X0 (lens a) W1 32).1 c) -∗ Φ ⟨⟩)
        ∗ boundary (SparseCore.T c : Thread nD τ) ∗ regAt a X0 W1 O c ∗ levAts (K (F := F)).L (K (F := F)).lev ∗ G a c)
      ⊢ wp frame (wpE ((K (F := F)).defs (D (F := F))) 𝒱 (SparseCore.T c : Thread nD τ) none) Set.univ
          (Prog.lift (.customCall (SparseCore.inner (Pipeline.entry 0)) ()) : Prog (TpuEff nD τ sig (Elt F) (SparseCore.Sig (ΛP (F := F)) 1) .tc) PUnit) Φ := by
  refine BIBase.Entails.trans (region_wp₀ a X0 W1 O hl c Φ) ?_
  have w := (K (F := F)).wp_liftProg (D (F := F)) 𝒱 (SparseCore.T c : Thread nD τ) Set.univ none
    (.op (.customCall (Pipeline.entry 0) ()) fun _ => .ret ⟨⟩) Φ
  exact w

end Run

end Cert.Proof.Pool

end
-- ==== Proof.Main.lean ====
/-
  @main of the pooling kernel: the codes laid out by rows, the SparseCore call, the TensorCore's region, the pooled rows laid
  out as the result; and the run of the whole program, over any float values.
-/
module

public import proofs.«01_k».proof.Proof.RegionRun
public import Idealize.ShloMosaic.Lib.SparseCore.Quiescent
public import Idealize.ShloMosaic.Lib.StableHlo.Run

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What the arguments hold, and what follows -/

section Mem

variable (m : (ℓ : Loc nD τ sig) → Buf (Elt F) ℓ) (ρ : Dev nD → PrngReg)

abbrev loc (d : Dev nD) (b : Ref sig .tc) : Loc nD τ sig := (SparseCore.T d : Thread nD τ).loc b

/-- The features, the lengths and the codes. -/
abbrev featM (d : Dev nD) : Vec F S16x2x2048x1024 .f32 := m (loc d main_arg0)
abbrev lensM (d : Dev nD) : Vec F S16 .i32 := m (loc d main_arg1)
abbrev codesM (d : Dev nD) : Vec F S16x2048x2 .i32 := m (loc d main_arg2)

/-- The arguments are in range: every length from 1 to 2048, every code under 320. -/
structure InOk : Prop where
  len : ∀ d b, LenOk (show BitVec 32 from lensM m d b)
  code : ∀ d j, (show BitVec 32 from codesM m d j).toNat < 320

/-- The codes by rows. -/
def V0M (d : Dev nD) : Buf (Elt F) (v0Loc d) := shapeCast S16x4096 (codesM m d) shapeCasts_S16x2048x2_S16x4096

variable (h : InOk m)

include h in
theorem allInRange : AllInRange (V0M m) := fun d _ => h.code d _

/-- The table of lengths the pipeline runs at. -/
def tab : AdmF F
  | ⟨0, _⟩ => ⟨fun k => match k with | ⟨0, _⟩ => lensM m 0, ok_of_len _ fun _ => h.len 0 _⟩

theorem tab_ok : ∀ i, LenOk (lenWord (lens (tab m h)) i) := fun _ => h.len 0 _

theorem lens_tab (d : Dev nD) : lens (tab m h) = lensM m d := by
  obtain rfl : d = 0 := Subsingleton.elim _ _
  rfl

/-- The pooled rows. -/
def pooled (d : Dev nD) : Vec F S1x16x1024 .f32 :=
  (stAt (featM m d) (lensM m d) (wtsAll (V0M m) (allInRange m h) d) 32).1

/-- The result. -/
def outM (d : Dev nD) : Vec F S16x1024 .f32 := shapeCast S16x1024 (pooled m h d) shapeCasts_S1x16x1024_S16x1024

/-! ## @main on the TensorCore -/

abbrev PM : (K (F := F)).Pay (nD := nD) (Val := Elt F) (Name := ℕ) (U := UU) := P (V0M m) (allInRange m h)

theorem unscopedBufs_eq (d : Dev nD) (W : (b : Ref sig .tc) → Buf (Elt F) ((d.tc : Thread nD τ).loc b)) :
    (unscopedBufs d W : sProp (MM F)) = iprop((loc d main_arg0 ↦{fullShare} W main_arg0) ∗ (loc d main_arg1 ↦{fullShare} W main_arg1)
      ∗ (loc d main_arg2 ↦{fullShare} W main_arg2) ∗ (loc d main_v0 ↦{fullShare} W main_v0) ∗ (loc d main_v1 ↦{fullShare} W main_v1)
      ∗ (loc d main_v2 ↦{fullShare} W main_v2) ∗ loc d main_v3 ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- Every tile's barrier semaphore at zero. -/
abbrev bars (d : Dev nD) : sProp (MM F) :=
  bigSep Finset.univ fun c : Fin ((K (F := F)).nCore 0) => bigSep Finset.univ fun i : Fin ((K (F := F)).nSub 0) => bar0 d (coreOf c) (subOf i)

/-- What the SparseCore call takes. -/
theorem st_intro (d : Dev nD) : iprop((v0Loc d ↦{fullShare} V0M m d) ∗ (v1Loc d ↦{fullShare} m (v1Loc d)))
    ⊢ (bigSep Finset.univ fun c : Fin ((K (F := F)).nCore 0) => (PM m h).st 0 d c : sProp (MM F)) := by
  show _ ⊢ bigSep Finset.univ fun c : Fin ((K (F := F)).nCore 0) => bigSep Finset.univ fun i : Fin ((K (F := F)).nSub 0) => goPts (V0M m) d (coreOf c) (subOf i)
  rw [v0_rows, v1_rows, ← bigSep_sep']
  refine bigSep_mono fun c _ => ?_
  rw [← bigSep_sep']
  refine bigSep_mono fun i _ => ?_
  refine (show iprop(v0Pts (V0M m) d (coreOf c) (subOf i) ∗ v1Pts d (coreOf c) (subOf i) (m (v1Loc d))) ⊢
    iprop(v0Pts (V0M m) d (coreOf c) (subOf i) ∗ ∃ f, v1Pts d (coreOf c) (subOf i) f) from ?_)
  iintro ⟨H0, H1⟩
  isplitl [H0]; · iexact H0
  iexists _; iexact H1

/-- What it gives back. -/
theorem dn_elim (d : Dev nD) : (bigSep Finset.univ fun c : Fin ((K (F := F)).nCore 0) => (PM m h).dn 0 d c : sProp (MM F))
    ⊢ iprop((v0Loc d ↦{fullShare} V0M m d) ∗ (v1Loc d ↦{fullShare} wtsAll (V0M m) (allInRange m h) d) ∗ bars d) := by
  show (bigSep Finset.univ fun c : Fin ((K (F := F)).nCore 0) => iprop((bigSep Finset.univ fun i : Fin ((K (F := F)).nSub 0) => tdPts (V0M m) (allInRange m h) d (coreOf c) (subOf i))
      ∗ (bigSep Finset.univ fun i : Fin ((K (F := F)).nSub 0) => bar0 d (coreOf c) (subOf i)))) ⊢ _
  rw [v0_rows, v1_rows, bigSep_sep']
  iintro ⟨H, Hb⟩
  ihave H' := (show (bigSep Finset.univ fun c : Fin ((K (F := F)).nCore 0) => bigSep Finset.univ fun i : Fin ((K (F := F)).nSub 0) => tdPts (V0M m) (allInRange m h) d (coreOf c) (subOf i) : sProp (MM F))
      ⊢ iprop((bigSep Finset.univ fun c : Fin ((K (F := F)).nCore 0) => bigSep Finset.univ fun i : Fin ((K (F := F)).nSub 0) => v0Pts (V0M m) d (coreOf c) (subOf i))
        ∗ (bigSep Finset.univ fun c : Fin ((K (F := F)).nCore 0) => bigSep Finset.univ fun i : Fin ((K (F := F)).nSub 0) => v1Pts d (coreOf c) (subOf i) (wtsAll (V0M m) (allInRange m h) d)))
    from by simp only [tdPts, bigSep_sep']; exact BIBase.Entails.rfl) $$ H
  icases H' with ⟨H0, H1⟩
  isplitl [H0]; · iexact H0
  isplitl [H1]; · iexact H1
  iexact Hb

/-- @main's two layout operations. -/
abbrev opIn : HloOp τ sig (Elt F) := StableHlo.reshape main_arg2 main_v0 (rfl : (.i32 : EltTy) = .i32) shapeCasts_S16x2048x2_S16x4096
abbrev opOut : HloOp τ sig (Elt F) := StableHlo.reshape main_v2 main_v3 (rfl : (.f32 : EltTy) = .f32) shapeCasts_S1x16x1024_S16x1024

/-- The buffers of the first, before and after. -/
theorem bufs_in (d : Dev nD) (W : Valuation τ sig (Elt F)) :
    (bigSep (opIn (F := F)).bufs (fun b => ((d, b) : Loc nD τ sig) ↦{fullShare} W b) : sProp (MM F))
      = iprop((loc d main_arg2 ↦{fullShare} W (Proc.devRef .tc main_arg2)) ∗ loc d main_v0 ↦{fullShare} W (Proc.devRef .tc main_v0)) := by
  rw [StableHlo.reshape_bufs, SparseCore.bigSep_insert' (by decide), bigSep_singleton]

theorem bufs_out (d : Dev nD) (W : Valuation τ sig (Elt F)) :
    (bigSep (opOut (F := F)).bufs (fun b => ((d, b) : Loc nD τ sig) ↦{fullShare} W b) : sProp (MM F))
      = iprop((loc d main_v2 ↦{fullShare} W (Proc.devRef .tc main_v2)) ∗ loc d main_v3 ↦{fullShare} W (Proc.devRef .tc main_v3)) := by
  rw [StableHlo.reshape_bufs, SparseCore.bigSep_insert' (by decide), bigSep_singleton]

/-- The contents before the second: the pooled rows, and what the result's buffer held. -/
def Wout (d : Dev nD) : Valuation τ sig (Elt F) := Function.update (fun b => m (d, b)) (Proc.devRef .tc main_v2) (pooled m h d)

theorem in_arg2 (d : Dev nD) : (opIn (F := F)).result (fun b => m (d, b)) (Proc.devRef .tc main_arg2) = codesM m d :=
  StableHlo.reshape_result_ne _ _ _ _ _ _ _ (r := main_arg2) (by decide)
theorem in_v0 (d : Dev nD) : (opIn (F := F)).result (fun b => m (d, b)) (Proc.devRef .tc main_v0) = V0M m d :=
  (StableHlo.reshape_result (Val := Elt F) main_arg2 main_v0 rfl shapeCasts_S16x2048x2_S16x4096 _ _ _).trans rfl
theorem Wout_v2 (d : Dev nD) : Wout m h d (Proc.devRef .tc main_v2) = pooled m h d := Function.update_self _ _ _
theorem Wout_v3 (d : Dev nD) : Wout m h d (Proc.devRef .tc main_v3) = m (loc d main_v3) := Function.update_of_ne (by decide) _ _
theorem out_v3 (d : Dev nD) : (opOut (F := F)).result (Wout m h d) (Proc.devRef .tc main_v3) = outM m h d :=
  (StableHlo.reshape_result (Val := Elt F) main_v2 main_v3 rfl shapeCasts_S1x16x1024_S16x1024 _ _ _).trans (by
    unfold outM; rw [← Wout_v2 m h d]; rfl)

/-- What @main leaves the claims: the arguments as they were, the result, and the barrier semaphores at zero. -/
abbrev FIN (d : Dev nD) : sProp (MM F) :=
  iprop((loc d main_arg0 ↦{fullShare} featM m d) ∗ (loc d main_arg1 ↦{fullShare} lensM m d) ∗ (loc d main_arg2 ↦{fullShare} codesM m d)
    ∗ (loc d main_v3 ↦{fullShare} outM m h d) ∗ bars d)

/-- After the call the TensorCore owes nothing, -/
theorem Otc_one (d : Dev nD) : (K (F := F)).Otc d 1 = (0 : CellTallies nD τ sig (HIx 1)) := by
  unfold SparseCore.Cfg.Otc
  exact Finset.sum_eq_zero fun q _ => if_neg (by have := q.isLt; omega)

/-- and every index of its cells is below the next call's. -/
theorem below_one (d : Dev nD) (W : Waits sig (HIx 1)) : (K (F := F)).WBelow (SparseCore.T d : Thread nD τ) W (8 * SparseCore.Cfg.Blocks.fst (Q := 1) (N := 1) 1) := fun p _ => by
  show (K (F := F)).lev (SparseCore.T d, p.1) p.2 ≤ 8 * 1
  cases hq : p.2 with
  | none => exact Nat.zero_le _
  | some q =>
    have := q.isLt
    have e : (K (F := F)).place (SparseCore.T d, p.1) = 6 := by rcases p.1 with s | s <;> rfl
    show 8 * q.val + (K (F := F)).place (SparseCore.T d, p.1) + 1 ≤ _
    omega

/-- @main on a device's TensorCore. -/
theorem hmain (κ : GSem nD τ sig → ℕ) (d : Dev nD) :
    iprop((K (F := F)).ctx EH (PM m h) κ ∗ (K (F := F)).tcSt EH d 0 ∗ (K (F := F)).tcRes m ρ d ∗ G (tab m h) d)
      ⊢ wp frame (wpE ((K (F := F)).defs (D (F := F))) 𝒱 (SparseCore.T d) none) Set.univ (main d)
          fun _ => iprop((K (F := F)).tcSt EH d 1 ∗ FIN m h d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, Hv0, Hv1, Hv2, Hv3⟩, Hts, -⟩, HG⟩
  -- the codes by rows
  iapply (wp_hlo 𝒱 (SparseCore.T d) none Set.univ (op := opIn) (q := fun _ => fullShare) (F := fun b => m (d, b)) (fun _ _ => rfl)) $$ [Hb H2 Hv0]
  · isplitl [Hb]; · iexact Hb
    iapply (Entails.of_eq (bufs_in d fun b => m (d, b)).symm)
    isplitl [H2]; · iexact H2
    iexact Hv0
  iintro ⟨Hb, Hbufs⟩
  ihave Hbufs' := (Entails.of_eq (bufs_in d (opIn.result fun b => m (d, b)))) $$ Hbufs
  rw [in_arg2, in_v0]
  icases Hbufs' with ⟨H2, Hv0⟩
  rw [wp_ret]; imodintro
  -- the SparseCore call
  iapply ((K (F := F)).wp_run (D (F := F)) 𝒱 (EH := EH) (P := PM m h) κ d 0) $$ [Hst H0 H1 H2 Hv0 Hv1 Hv2 Hv3 Hb Hts HG]
  isplitr; · iexact Hctx
  isplitl [Hst]; · iexact Hst
  isplitl [Hv0 Hv1]
  · iapply (st_intro m h d)
    isplitl [Hv0]; · iexact Hv0
    iexact Hv1
  iintro ⟨Hst, Hdn⟩
  ihave Hdn' := (dn_elim m h d) $$ Hdn
  icases Hdn' with ⟨Hv0, Hv1, Hbars⟩
  -- the region, lent what the core owes
  unfold SparseCore.Cfg.tcSt
  icases Hst with ⟨⟨%W, -, Ho⟩, Hst⟩
  iapply (region_wp (tab m h) (featM m d) (wtsAll (V0M m) (allInRange m h) d) (m (loc d main_v2)) (tab_ok m h) d)
  rw [show (K (F := F)).Otc d ((0 : Fin 1).val + 1) = 0 from Otc_one d]
  isplitr [Hb H0 H1 Hv1 Hv2 Ho HG]
  · iintro ⟨Hb, Hr⟩
    unfold regAt
    icases Hr with ⟨H0, Hv1, Hv2, H1, %W', Ho⟩
    rw [lens_tab m h d]
    -- the pooled rows laid out as the result
    iapply (wp_hlo 𝒱 (SparseCore.T d) none Set.univ (op := opOut) (q := fun _ => fullShare) (F := Wout m h d) (fun _ _ => rfl)) $$ [Hb Hv2 Hv3]
    · isplitl [Hb]; · iexact Hb
      iapply (Entails.of_eq (bufs_out d (Wout m h d)).symm)
      rw [Wout_v2, Wout_v3]
      isplitl [Hv2]; · iexact Hv2
      iexact Hv3
    iintro ⟨Hb, Hbufs⟩
    ihave Hbufs' := (Entails.of_eq (bufs_out d (opOut.result (Wout m h d)))) $$ Hbufs
    rw [out_v3]
    icases Hbufs' with ⟨-, Hv3⟩
    rw [wp_ret]; imodintro; imodintro
    isplitl [Hst Ho]
    · isplitl [Ho]
      · iexists W'
        isplitr
        · ipureintro; exact below_one d W'
        rw [Otc_one]; iexact Ho
      iexact Hst
    isplitr [Hb Hts]
    · isplitl [H0]; · iexact H0
      isplitl [H1]; · iexact H1
      isplitl [H2]; · iexact H2
      isplitl [Hv3]; · iexact Hv3
      iexact Hbars
    isplitl [Hb] <;> iassumption
  · isplitl [Hb]; · iexact Hb
    isplitl [H0 H1 Hv1 Hv2 Ho]
    · unfold regAt
      isplitl [H0]; · iexact H0
      isplitl [Hv1]; · iexact Hv1
      isplitl [Hv2]; · iexact Hv2
      rw [lens_tab m h d]
      isplitl [H1]; · iexact H1
      iexists W; iexact Ho
    isplitr; · iapply ((K (F := F)).ctx_levAts κ); iexact Hctx
    iexact HG

/-! ## The program's run -/

/-- What a final memory shows on a device. -/
def fq (d : Dev nD) (s' : Phys nD τ sig (Elt F)) : Prop :=
  (s'.mem.mem (loc d main_arg0) = featM m d ∧ s'.mem.mem (loc d main_arg1) = lensM m d ∧ s'.mem.mem (loc d main_arg2) = codesM m d
    ∧ s'.mem.mem (loc d main_v3) = outM m h d)
  ∧ ∀ (c : Fin ((K (F := F)).nCore 0)) (i : Fin ((K (F := F)).nSub 0)), s'.mem.sem (bcell d (coreOf c) (subOf i)) = 0

/-- A buffer held whole is what the memory holds there. -/
theorem agree (l : Loc nD τ sig) (f : Buf (Elt F) l) (s' : Phys nD τ sig (Elt F)) :
    iprop((l ↦{fullShare} f) ∗ SI s') ⊢ (⌜s'.mem.mem l = f⌝ : sProp (MM F)) := by
  iintro ⟨Hx, HSI⟩
  ihave H := (SI_pointsTo_agree (st := s') (ℓ := l) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m h d ∗ SI s') ⊢ (⌜fq m h d s'⌝ : sProp (MM F)) :=
  fun x hx => ⟨⟨((sep_mono_left sep_elim_left).trans (agree _ _ s')) x hx,
    ((sep_mono_left (sep_elim_right.trans sep_elim_left)).trans (agree _ _ s')) x hx,
    ((sep_mono_left (sep_elim_right.trans (sep_elim_right.trans sep_elim_left))).trans (agree _ _ s')) x hx,
    ((sep_mono_left (sep_elim_right.trans (sep_elim_right.trans (sep_elim_right.trans sep_elim_left)))).trans (agree _ _ s')) x hx⟩,
    fun c i => ((sep_mono_left (sep_elim_right.trans (sep_elim_right.trans (sep_elim_right.trans (sep_elim_right.trans
      (SparseCore.ent ((bigSep_elim (Finset.mem_univ c)).trans (bigSep_elim (Finset.mem_univ i))))))))).trans
        (SparseCore.Cfg.semVal_zero_read _ s')) x hx⟩

/-- The barrier cells end at zero. -/
theorem hA (s' : Phys nD τ sig (Elt F)) (hs : ∀ d, fq m h d s') (g : GSem nD τ sig) (hg : g ∈ bCells) : s'.mem.sem g = 0 := by
  obtain ⟨⟨d, c, i⟩, -, rfl⟩ := Finset.mem_image.mp hg
  exact (hs d).2 ⟨c.val, c.isLt⟩ ⟨i.val, i.isLt⟩

/-- What the run ends with: the arguments unchanged, the result at the pooled rows, every semaphore at zero. -/
def QC : PUnit × MemSt nD τ sig (Elt F) → Prop := fun r =>
  (∀ d : Dev nD, r.2.mem (loc d main_arg0) = featM m d ∧ r.2.mem (loc d main_arg1) = lensM m d ∧ r.2.mem (loc d main_arg2) = codesM m d
    ∧ r.2.mem (loc d main_v3) = outM m h d) ∧ r.2.sem = fun _ => 0

/-- Every weakly fair execution of the program's threads ends so. -/
theorem run_main [∀ e, Nonempty (Elt F e)] : θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := PM m h) (hA := hA m h) facts v₀
    (fun q hq => match q with | 0 => nomatch hq)
    (fun q _ => match q with | 0 => tileObl (V0M m) (allInRange m h) facts)
    (fun q _ => match q with | 0 => vecSplit (V0M m) (allInRange m h))
    m ρ main (G (tab m h)) (FIN m h) (u₀ (tab m h)) (hu₀ (tab m h) (V0M m) (allInRange m h)) (hmain m ρ h) (fq m h) (hfin m h) (QC m h)
    (fun _ hs hz => ⟨fun d => (hs d).1, hz⟩)

end Mem

end Cert.Proof.Pool

end
-- ==== Proof.InRange.lean ====
/-
  What the precondition says: every length is from 1 to 2048 and every code is under 320.
-/
module

public import proofs.«01_k».proof.Proof.Gen.Pre_in_range
public import Idealize.ShloMosaic.Lib.ReduceAll

@[expose] public section

namespace Cert.Proof.InRange

open Idealize.ShloMosaic Cert.Pre_in_range Cert.Pre_in_range.Gen

variable {F : FTy → Type} [FloatOps F]

instance : Subsingleton S_.Idx := ⟨fun _ _ => funext fun b => b.elim0⟩

theorem and_one (a b : BitVec 1) (h : a &&& b = 1#1) : a = 1#1 ∧ b = 1#1 := by
  revert h; revert a b; decide

/-- The precondition, read element by element. -/
theorem of_fn (x : FVec F S16x2x2048x1024 .f32) (l : IVec S16 32) (c : IVec S16x2048x2 32) (h : Cert.Pre_in_range.fn x l c = fun _ => 1#1) :
    (∀ b, 1 ≤ (l b).toNat ∧ (l b).toNat ≤ 2048) ∧ ∀ j, (c j).toNat < 320 := by
  have h0 := congrFun h (fun b => b.elim0)
  unfold Cert.Pre_in_range.fn at h0
  obtain ⟨h1, h13⟩ := and_one _ _ h0
  obtain ⟨h2, h9⟩ := and_one _ _ h1
  obtain ⟨h3, h5⟩ := and_one _ _ h2
  refine ⟨fun b => ?_, fun j => ?_⟩
  · have e2 : (1 : Int) ≤ (l b).toInt := IntOp.cmpi_sge.1 (Host.reduce_andi_all _ _ _ _ _ h3 b)
    have e5 : (l b).toInt ≤ 2048 := IntOp.cmpi_sle.1 (Host.reduce_andi_all _ _ _ _ _ h5 b)
    rw [BitVec.toInt_eq_toNat_cond] at e2 e5
    have := (l b).isLt
    split_ifs at e2 e5 <;> omega
  · have e9 : (0 : Int) ≤ (c j).toInt := IntOp.cmpi_sge.1 (Host.reduce_andi_all _ _ _ _ _ h9 j)
    have e13 : (c j).toInt < 320 := IntOp.cmpi_slt.1 (Host.reduce_andi_all _ _ _ _ _ h13 j)
    rw [BitVec.toInt_eq_toNat_cond] at e9 e13
    have := (c j).isLt
    split_ifs at e9 e13 <;> omega

end Cert.Proof.InRange
-- ==== Proof.Frames.lean ====
/-
  The frames of the kernel, read off its one run: from lengths and codes in range every execution ends with the arguments
  unchanged and every counter at zero, at the machine's floats and at the extended reals; and the frame of the reference.
-/
module

public import proofs.«01_k».proof.Proof.Main
public import proofs.«01_k».proof.Proof.InRange
public import Idealize.ShloMosaic.Lib.Quiescent
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- What the precondition says of the memory the kernel starts from. -/
theorem inOk_of {F : FTy → Type} [FloatOps F] (m : (ℓ : Loc Cert.KernelIdeal.nD Cert.KernelIdeal.τ Cert.KernelIdeal.sig) → Buf (Elt F) ℓ)
    (h : ∀ d, Cert.Pre_in_range.fn (F := F) (Pool.featM m d) (Pool.lensM m d) (Pool.codesM m d) = fun _ => 1#1) : Pool.InOk m where
  len d b := (InRange.of_fn _ _ _ (h d)).1 b
  code d j := (InRange.of_fn _ _ _ (h d)).2 j

theorem elt_bits (e : EltTy) : Nonempty (Elt Bits e) := by cases e <;> exact ⟨(0 : BitVec _)⟩

theorem elt_ideal (e : EltTy) : Nonempty (Elt Ideal e) := by
  cases e
  case i1 | i4 | i8 | i16 | i32 | i64 => exact ⟨(0 : BitVec _)⟩
  all_goals exact ⟨(0 : EReal)⟩

theorem frame_kernelIdeal : Cert.quiescent_KernelIdeal := fun m ρ h =>
  haveI := elt_ideal
  (θ_run (Cert.KernelIdeal.defs (F := Ideal)) (Cert.KernelIdeal.threads (F := Ideal)) _).mono
    (fun _ q => ⟨fun d => ⟨(q.1 d).1, (q.1 d).2.1, (q.1 d).2.2.1⟩, q.2⟩) (Pool.run_main (F := Ideal) m ρ (inOk_of m h))

/-! ## The kernel's text and the idealized kernel's are the same -/

section Same

variable {F : FTy → Type} [FloatOps F]

set_option maxHeartbeats 400000 in
theorem bodies_same : @Cert.Kernel.defs₀ F _ _ = @Cert.KernelIdeal.defs₀ F _ _ := by
  funext p l a
  match p, l, a with
  | .tc, 0, _ => rfl
  | .tc, 1, _ => rfl
  | .scScalar _, 0, _ => rfl
  | .scScalar _, 1, _ => rfl
  | .scVector _ _, 0, _ => rfl
  | .scVector _ _, 1, _ => rfl

set_option maxHeartbeats 400000 in
theorem tables_same : @Cert.Kernel.defs F _ _ = @Cert.KernelIdeal.defs F _ _ :=
  congrArg (fun b => Cert.KernelIdeal.sc.defs (Pipeline.defs Cert.KernelIdeal.pcfgs b)) (bodies_same (F := F))

set_option maxHeartbeats 400000 in
theorem threads_same : @Cert.Kernel.threads F _ _ = @Cert.KernelIdeal.threads F _ _ := rfl

end Same

set_option maxHeartbeats 1000000 in
/-- So the same run, at the machine's floats, is the kernel's frame. -/
theorem frame_kernel : Cert.quiescent_Kernel := fun m ρ h =>
  haveI := elt_bits
  (congrArg (fun D => (θ_run D (Cert.Kernel.threads (F := Bits)) ⟨m, fun _ => 0, ρ⟩) _) (tables_same (F := Bits))).mpr
    ((θ_run (Cert.KernelIdeal.defs (F := Bits)) (Cert.KernelIdeal.threads (F := Bits)) ⟨m, fun _ => 0, ρ⟩).mono
      (fun _ q => ⟨fun d => ⟨(q.1 d).1, (q.1 d).2.1, (q.1 d).2.2.1⟩, q.2⟩) (Pool.run_main (F := Bits) m ρ (inOk_of (F := Bits) m h)))

/-! ## The reference -/

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from arguments in range. -/
theorem frame_reference_in_range : Cert.quiescent_ReferenceIdeal_pre_in_range := fun m ρ _ => frame_reference m ρ trivial

end Cert.Proof

end
-- ==== Proof.Weight.lean ====
/-
  The mathematics of the pooling, over the extended reals: how often the codes of a position occur in its batch row, the weight of
  a position, and the pooled row.
-/
module

public import proofs.«01_k».proof.Defs
public import Idealize.ShloMosaic.Lib.Pointwise

@[expose] public section

set_option maxRecDepth 16384

noncomputable section

namespace Cert.Proof.Pool

open Cert.KernelIdeal
open Idealize.ShloMosaic

/-- The code `z` (0: the first, 1: the second) of position `p` of batch row `b`. -/
def codeN (c : IVec S16x2048x2 32) (b : Fin 16) (p : ℕ) (z : Fin 2) : ℕ := (c (ix3 b (Fin.ofNat 2048 p) z)).toNat

/-- How many positions of batch row `b` have `v` as their code `z`. -/
def occ (c : IVec S16x2048x2 32) (b : Fin 16) (z : Fin 2) (v : ℕ) : ℕ := ∑ q ∈ Finset.range 2048, if codeN c b q z = v then 1 else 0

/-- The frequency of position `p`: how often its first code occurs as a first code and its second as a second. -/
def freqN (c : IVec S16x2048x2 32) (b : Fin 16) (p : ℕ) : ℕ := occ c b 0 (codeN c b p 0) + occ c b 1 (codeN c b p 1)

theorem freqN_def (c : IVec S16x2048x2 32) (b : Fin 16) (p : ℕ) : freqN c b p = occ c b 0 (codeN c b p 0) + occ c b 1 (codeN c b p 1) := rfl

/-- The weight of a position is one over its frequency … -/
def wt (c : IVec S16x2048x2 32) (b : Fin 16) (p : ℕ) : EReal := Ideal.div 1 ((freqN c b p : ℕ) : EReal)

/-- … and zero past the end of the batch row. -/
def wtM (l : IVec S16 32) (c : IVec S16x2048x2 32) (b : Fin 16) (p : ℕ) : EReal :=
  if p < (l (ix1 b)).toNat then wt c b p else 0

/-- The sum of a batch row's weights. -/
def total (l : IVec S16 32) (c : IVec S16x2048x2 32) (b : Fin 16) : EReal := ∑ p : Fin 2048, wtM l c b p.val

/-- The pooled row: the weighted sum of the last layer's features over the sum of the weights. -/
def pool (x : FVec Ideal S16x2x2048x1024 .f32) (l : IVec S16 32) (c : IVec S16x2048x2 32) (b : Fin 16) (d : Fin 1024) : EReal :=
  Ideal.div (∑ p : Fin 2048, wtM l c b p.val * x (ix4 b (1 : Fin 2) p d)) (total l c b)

/-! ## The weights are positive numbers -/

theorem occ_pos (c : IVec S16x2048x2 32) (b : Fin 16) (z : Fin 2) (p : ℕ) (hp : p < 2048) : 0 < occ c b z (codeN c b p z) := by
  refine Finset.sum_pos' (fun _ _ => Nat.zero_le _) ⟨p, Finset.mem_range.mpr hp, ?_⟩
  rw [if_pos rfl]; exact Nat.one_pos

theorem freq_pos (c : IVec S16x2048x2 32) (b : Fin 16) (p : ℕ) (hp : p < 2048) : 0 < freqN c b p :=
  Nat.add_pos_left (occ_pos c b 0 p hp) _

theorem div_pos_real (y : EReal) (r : ℝ) (hr : 0 < r) : Ideal.div y (r : EReal) = y * ((r⁻¹ : ℝ) : EReal) := by
  unfold Ideal.div
  rw [if_neg (by intro h; exact hr.ne' (EReal.coe_eq_zero.mp h)), EReal.coe_inv]

theorem wt_eq (c : IVec S16x2048x2 32) (b : Fin 16) (p : ℕ) (hp : p < 2048) : wt c b p = (((freqN c b p : ℝ)⁻¹ : ℝ) : EReal) := by
  have h : (0 : ℝ) < (freqN c b p : ℝ) := by exact_mod_cast freq_pos c b p hp
  unfold wt
  rw [← EReal.coe_natCast, div_pos_real _ _ h, one_mul]

/-- A position's masked weight as a real number. -/
def wtR (l : IVec S16 32) (c : IVec S16x2048x2 32) (b : Fin 16) (p : ℕ) : ℝ :=
  if p < (l (ix1 b)).toNat then (freqN c b p : ℝ)⁻¹ else 0

theorem wtM_eq (l : IVec S16 32) (c : IVec S16x2048x2 32) (b : Fin 16) (p : ℕ) (hp : p < 2048) : wtM l c b p = (wtR l c b p : EReal) := by
  unfold wtM wtR
  split_ifs
  · exact wt_eq c b p hp
  · rfl

theorem wtR_nonneg (l : IVec S16 32) (c : IVec S16x2048x2 32) (b : Fin 16) (p : ℕ) : 0 ≤ wtR l c b p := by
  unfold wtR
  split_ifs
  · exact inv_nonneg.mpr (Nat.cast_nonneg _)
  · exact le_refl _

theorem wtR_pos (l : IVec S16 32) (c : IVec S16x2048x2 32) (b : Fin 16) (p : ℕ) (hp : p < 2048) (h : p < (l (ix1 b)).toNat) : 0 < wtR l c b p := by
  unfold wtR
  rw [if_pos h]
  exact inv_pos.mpr (Nat.cast_pos.mpr (freq_pos c b p hp))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of a batch row's weights is a positive number. -/
theorem total_pos (l : IVec S16 32) (c : IVec S16x2048x2 32) (b : Fin 16) (hl : 1 ≤ (l (ix1 b)).toNat) :
    ∃ r : ℝ, 0 < r ∧ total l c b = (r : EReal) := by
  refine ⟨∑ p : Fin 2048, wtR l c b p.val, ?_, ?_⟩
  · refine Finset.sum_pos' (fun p _ => wtR_nonneg l c b p.val) ⟨⟨0, by decide⟩, Finset.mem_univ _, ?_⟩
    exact wtR_pos l c b 0 (by decide) hl
  · unfold total
    rw [coe_sum]
    exact Finset.sum_congr rfl fun p _ => wtM_eq l c b p.val p.isLt

/-- A factor that is a nonnegative number goes out of a sum. -/
theorem sum_mul_real {ι : Type} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- Weighting by the normalised weights is dividing the weighted sum by the sum of the weights. -/
theorem pool_eq (x : FVec Ideal S16x2x2048x1024 .f32) (l : IVec S16 32) (c : IVec S16x2048x2 32) (b : Fin 16) (d : Fin 1024)
    (hl : 1 ≤ (l (ix1 b)).toNat) :
    ∑ p : Fin 2048, x (ix4 b (1 : Fin 2) p d) * Ideal.div (wtM l c b p.val) (total l c b) = pool x l c b d := by
  obtain ⟨r, hr, e⟩ := total_pos l c b hl
  unfold pool
  rw [e, div_pos_real _ _ hr, ← sum_mul_real _ _ _ (inv_nonneg.mpr hr.le)]
  refine Finset.sum_congr rfl fun p _ => ?_
  rw [div_pos_real _ _ hr, ← mul_assoc, mul_comm (x _)]

end Cert.Proof.Pool

end
-- ==== Proof.Counts.lean ====
/-
  What the SparseCore call computes, over the extended reals: every counter is the number of times its code occurs in the tile's
  half row, and the weight that a tile writes for a position is the weight of Weight.lean.
-/
module

public import proofs.«01_k».proof.Proof.Setup
public import proofs.«01_k».proof.Proof.Weight

@[expose] public section

set_option maxRecDepth 16384

noncomputable section

namespace Cert.Proof.Pool

open Cert.KernelIdeal Cert.KernelIdeal.Gen
open Idealize.ShloMosaic

/-! ## One batch of sixteen -/

/-- Whether lane `l` of `v` names counter `n`, as a number. -/
abbrev hit (v : IVec S16 32) (n : ℕ) (l : Fin 16) : ℕ := if (v (lane l)).toNat = n then 1 else 0

theorem one_bits : (Scalar.ofBits (F := Ideal) .f32 0x3F800000#32 : EReal) = 1 := by
  show Ideal.ofBits .f32 0x3F800000#32 = 1
  simp [Ideal.ofBits, Ideal.ieee, -EReal.coe_mul]; norm_num

theorem zero_bits : (Scalar.ofBits (F := Ideal) .f32 0x00000000#32 : EReal) = 0 := by
  show Ideal.ofBits .f32 0x00000000#32 = 0
  simp [Ideal.ofBits, Ideal.ieee, -EReal.coe_mul]

/-- A step that adds to every counter whether its lane names it, over a list of lanes. -/
theorem bump_list (v : IVec S16 32) (j : S640.Idx) (G : Vec Ideal S640 .f32 → Fin 16 → Vec Ideal S640 .f32)
    (hG : ∀ f k, (G f k j : EReal) = f j + ((hit v (j 0).val k : ℕ) : EReal)) (L : List (Fin 16)) (f : Vec Ideal S640 .f32) :
    (L.foldl G f j : EReal) = f j + (((L.map (hit v (j 0).val)).sum : ℕ) : EReal) := by
  induction L generalizing f with
  | nil => simp
  | cons k L ih => rw [List.foldl_cons, ih, hG, List.map_cons, List.sum_cons, Nat.cast_add, ← add_assoc]

/-- A batch of sixteen codes adds to a counter the number of lanes that name it. -/
theorem bump_apply (cnt : Vec Ideal S640 .f32) (v : IVec S16 32) (h : k0_chk3 v) (j : S640.Idx) :
    (bump (F := Ideal) cnt v h j : EReal) = cnt j + ((∑ l : Fin 16, hit v (j 0).val l : ℕ) : EReal) := by
  rw [Fin.sum_univ_def]
  unfold bump storeIdx
  refine bump_list v j _ (fun f k => ?_) (List.finRange 16) cnt
  refine (congrFun (if_pos rfl) j).trans ?_
  by_cases e : (v (lane k)).toNat = (j 0).val
  · have hj : j = idxAt (s := S640) ![v] h (lane k) := by
      funext a
      rw [Subsingleton.elim a 0]
      exact Fin.ext e.symm
    refine (if_pos (fun a => congrArg (fun i : S640.Idx => (i a).val) hj)).trans ?_
    show (f (idxAt (s := S640) ![v] h (lane k)) + (Scalar.ofBits (F := Ideal) .f32 0x3F800000#32 : EReal) : EReal) = _
    rw [← hj, hit, if_pos e, Nat.cast_one, one_bits]
  · refine (if_neg (fun q => e (q 0).symm)).trans ?_
    rw [hit, if_neg e, Nat.cast_zero]
    exact (add_zero _).symm

/-! ## A tile's counters -/

/-- Word `i` of a tile's list of codes. -/
def wordN (cd : Vec Ideal S2048 .i32) (i : ℕ) : ℕ := (show BitVec 32 from cd (ix1 (Fin.ofNat 2048 i))).toNat

theorem codeX_lane (cd : Vec Ideal S2048 .i32) (k : Fin k0_t2_loop.trips) (l : Fin 16) :
    (show BitVec 32 from codeX cd k (lane l)).toNat = wordN cd (2 * (16 * k.val + l.val)) := by
  have hk : k.val < 64 := trips2 ▸ k.isLt
  have e := even_val k (lane l)
  refine congrArg (fun i : S2048.Idx => (show BitVec 32 from cd i).toNat) (funext fun a => Fin.ext ?_)
  rw [Subsingleton.elim a 0]
  show (k0_pay10 lanes k (lane l)).toNat = (2 * (16 * k.val + l.val)) % 2048
  rw [e]
  show 32 * k.val + 2 * l.val = _
  omega

theorem codeY_lane (cd : Vec Ideal S2048 .i32) (k : Fin k0_t2_loop.trips) (l : Fin 16) :
    (show BitVec 32 from codeY cd k (lane l)).toNat = wordN cd (2 * (16 * k.val + l.val) + 1) := by
  have hk : k.val < 64 := trips2 ▸ k.isLt
  have e := odd_val k (lane l)
  refine congrArg (fun i : S2048.Idx => (show BitVec 32 from cd i).toNat) (funext fun a => Fin.ext ?_)
  rw [Subsingleton.elim a 0]
  show (k0_pay11 lanes k (lane l)).toNat = (2 * (16 * k.val + l.val) + 1) % 2048
  rw [e]
  show 32 * k.val + 2 * l.val + 1 = _
  omega

/-- What position `q` of a list adds to counter `n`. -/
def adds (cd : Vec Ideal S2048 .i32) (n q : ℕ) : ℕ :=
  (if wordN cd (2 * q) = n then 1 else 0) + (if wordN cd (2 * q + 1) + 320 = n then 1 else 0)

/-- After `n` trips a counter holds what the first `16 n` positions add to it. -/
theorem hist_apply (cd : Vec Ideal S2048 .i32) (hc : InRange cd) (j : S640.Idx) (n : ℕ) (hn : n ≤ 64) :
    (hist cd hc n j : EReal) = ((∑ q ∈ Finset.range (16 * n), adds cd (j 0).val q : ℕ) : EReal) := by
  induction n with
  | zero => exact zero_bits.trans Nat.cast_zero.symm
  | succ n ih =>
    have hlt : n < k0_t2_loop.trips := by rw [trips2]; omega
    have e : hist cd hc (n + 1) = bump (bump (hist cd hc n) (codeX cd ⟨n, hlt⟩) (codeX_ok hc _)) (k0_pay12 (codeY cd ⟨n, hlt⟩)) (codeY_ok hc _) := dif_pos hlt
    refine (congrFun e j).trans ((bump_apply _ _ _ j).trans ?_)
    rw [bump_apply, ih (by omega), mul_add, Finset.sum_range_add, ← Nat.cast_add, ← Nat.cast_add, add_assoc]
    refine congrArg (fun x : ℕ => ((_ + x : ℕ) : EReal)) ?_
    rw [mul_one, Finset.sum_range, ← Finset.sum_add_distrib]
    refine Finset.sum_congr rfl fun l _ => ?_
    unfold hit adds
    rw [codeX_lane, pay12_val _ _ (hc _), codeY_lane]

end Cert.Proof.Pool

end
-- ==== Proof.Tiles.lean ====
/-
  The weights the SparseCore call writes are the weights of Weight.lean: a tile and its mate hold the two halves of a batch row's
  codes, so their counters together count the row.
-/
module

public import proofs.«01_k».proof.Proof.Counts
public import proofs.«01_k».proof.Proof.Main

@[expose] public section

set_option maxRecDepth 16384

noncomputable section

namespace Cert.Proof.Pool

open Cert.KernelIdeal Cert.KernelIdeal.Gen
open Idealize.ShloMosaic

/-- The array of codes laid out by rows: word `2 p + z` of a row is code `z` of position `p`. -/
theorem rows_apply (c : IVec S16x2048x2 32) (b : Fin 16) (k : Fin 4096) :
    shapeCast S16x4096 c shapeCasts_S16x2048x2_S16x4096 (ix2 b k) = c (ix3 b ⟨k.val / 2, by omega⟩ ⟨k.val % 2, by omega⟩) := by
  pointwise

theorem two_lt (L : grid0.Coords) : (L 0).val < 2 := (L 0).isLt
theorem sixteen_lt (L : grid0.Coords) : (L 1).val < 16 := (L 1).isLt

/-- The batch row of a tile. -/
def rowOf (L : grid0.Coords) : Fin 16 := ⟨8 * (L 0).val + (L 1).val / 2, by have := two_lt L; have := sixteen_lt L; omega⟩

/-- Word `2 q + z` of a tile's list is code `z` of position `q` of its half of its batch row. -/
theorem word_eq (m : (ℓ : Loc nD τ sig) → Buf (Elt Ideal) ℓ) (d : Dev nD) (L : grid0.Coords) (q : ℕ) (hq : q < 1024) (z : Fin 2) :
    wordN (codes (V0M m) d L) (2 * q + z.val) = codeN (codesM m d) (rowOf L) (1024 * ((L 1).val % 2) + q) z := by
  have hz := z.isLt
  have hk : 2048 * ((L 1).val % 2) + (2 * q + z.val) < 4096 := by omega
  obtain ⟨h0, h1⟩ := v0_emb L (ix1 (Fin.ofNat 2048 (2 * q + z.val)))
  have e : (v0RowK L).view.emb (ix1 (Fin.ofNat 2048 (2 * q + z.val))) = (ix2 (rowOf L) ⟨_, hk⟩ : S16x4096.Idx) := by
    funext a
    apply Fin.ext
    match a with
    | 0 => exact h0
    | 1 =>
      refine h1.trans ?_
      show 2048 * ((L 1).val % 2) + (2 * q + z.val) % 2048 = _
      exact congrArg (2048 * ((L 1).val % 2) + ·) (Nat.mod_eq_of_lt (by omega))
  unfold wordN codeN
  refine congrArg BitVec.toNat ?_
  refine ((congrArg (V0M m d) e).trans (rows_apply (codesM m d) (rowOf L) ⟨_, hk⟩)).trans (congrArg (codesM m d) ?_)
  funext a
  apply Fin.ext
  match a with
  | 0 => rfl
  | 1 =>
    show (2048 * ((L 1).val % 2) + (2 * q + z.val)) / 2 = (1024 * ((L 1).val % 2) + q) % 2048
    omega
  | 2 =>
    show (2048 * ((L 1).val % 2) + (2 * q + z.val)) % 2 = z.val
    omega

/-! ## A tile's counters, and its mate's -/

/-- How many positions of a half batch row have `v` as their code `z`. -/
def occH (c : IVec S16x2048x2 32) (b : Fin 16) (z : Fin 2) (v h : ℕ) : ℕ :=
  ∑ q ∈ Finset.range 1024, if codeN c b (1024 * h + q) z = v then 1 else 0

theorem occ_halves (c : IVec S16x2048x2 32) (b : Fin 16) (z : Fin 2) (v : ℕ) : occ c b z v = occH c b z v 0 + occH c b z v 1 := by
  unfold occ occH
  refine (Finset.sum_range_add _ 1024 1024).trans ?_
  simp only [mul_zero, zero_add, mul_one]

section Counters

variable (m : (ℓ : Loc nD τ sig) → Buf (Elt Ideal) ℓ) (h : InOk m) (d : Dev nD)

include h in
theorem codeN_lt (b : Fin 16) (p : ℕ) (z : Fin 2) : codeN (codesM m d) b p z < 320 := h.code d _

/-- One of the first 320 counters counts first codes. -/
theorem cnt_first (L : grid0.Coords) (j : S640.Idx) (v : ℕ) (hv : v < 320) (hj : (j 0).val = v) :
    (cnt (V0M m) (allInRange m h) d L j : EReal) = ((occH (codesM m d) (rowOf L) 0 v ((L 1).val % 2) : ℕ) : EReal) := by
  refine (hist_apply _ _ j 64 (le_refl _)).trans (congrArg (fun x : ℕ => (x : EReal)) ?_)
  unfold occH
  refine Finset.sum_congr rfl fun q hq => ?_
  have hq' : q < 1024 := Finset.mem_range.mp hq
  have e0 := word_eq m d L q hq' 0
  unfold adds
  rw [show 2 * q = 2 * q + (0 : Fin 2).val from rfl, e0, hj, if_neg (by omega : ¬ (_ + 320 = v))]
  rfl

/-- One of the last 320 counters counts second codes. -/
theorem cnt_second (L : grid0.Coords) (j : S640.Idx) (v : ℕ) (hj : (j 0).val = v + 320) :
    (cnt (V0M m) (allInRange m h) d L j : EReal) = ((occH (codesM m d) (rowOf L) 1 v ((L 1).val % 2) : ℕ) : EReal) := by
  refine (hist_apply _ _ j 64 (le_refl _)).trans (congrArg (fun x : ℕ => (x : EReal)) ?_)
  unfold occH
  refine Finset.sum_congr rfl fun q hq => ?_
  have hq' : q < 1024 := Finset.mem_range.mp hq
  have e0 := word_eq m d L q hq' 0
  have e1 := word_eq m d L q hq' 1
  have l0 := codeN_lt m h d (rowOf L) (1024 * ((L 1).val % 2) + q) 0
  have e0' : wordN (codes (V0M m) d L) (2 * q) < 320 := by
    rw [show 2 * q = 2 * q + (0 : Fin 2).val from rfl, e0]; exact l0
  unfold adds
  rw [show 2 * q + 1 = 2 * q + (1 : Fin 2).val from rfl, e1, hj, if_neg (by omega : ¬ (wordN _ (2 * q) = v + 320)), zero_add]
  simp only [Nat.add_right_cancel_iff]

theorem mate_one (L : grid0.Coords) : ((mateL L) 1).val = (L 1).val + 1 - 2 * ((L 1).val % 2) := rfl

theorem row_mate (L : grid0.Coords) : rowOf (mateL L) = rowOf L := by
  apply Fin.ext
  show 8 * ((mateL L) 0).val + ((mateL L) 1).val / 2 = 8 * (L 0).val + (L 1).val / 2
  rw [mate_one]
  show 8 * (L 0).val + _ = _
  omega

/-- Both halves together count the batch row. -/
theorem halves (L : grid0.Coords) (c : IVec S16x2048x2 32) (b : Fin 16) (z : Fin 2) (v : ℕ) :
    occH c b z v ((L 1).val % 2) + occH c b z v (((mateL L) 1).val % 2) = occ c b z v := by
  rw [occ_halves, mate_one]
  obtain e | e : (L 1).val % 2 = 0 ∨ (L 1).val % 2 = 1 := by omega
  · rw [e, show ((L 1).val + 1 - 2 * 0) % 2 = 1 by omega]
  · rw [e, show ((L 1).val + 1 - 2 * 1) % 2 = 0 by omega, add_comm]

theorem both_first (L : grid0.Coords) (j : S640.Idx) (v : ℕ) (hv : v < 320) (hj : (j 0).val = v) :
    (both (cnt (V0M m) (allInRange m h) d L) (cnt (V0M m) (allInRange m h) d (mateL L)) j : EReal)
      = ((occ (codesM m d) (rowOf L) 0 v : ℕ) : EReal) := by
  refine (congrArg₂ (fun x y : EReal => x + y) (cnt_first m h d L j v hv hj) (cnt_first m h d (mateL L) j v hv hj)).trans ?_
  rw [row_mate, ← Nat.cast_add, halves]

theorem both_second (L : grid0.Coords) (j : S640.Idx) (v : ℕ) (hj : (j 0).val = v + 320) :
    (both (cnt (V0M m) (allInRange m h) d L) (cnt (V0M m) (allInRange m h) d (mateL L)) j : EReal)
      = ((occ (codesM m d) (rowOf L) 1 v : ℕ) : EReal) := by
  refine (congrArg₂ (fun x y : EReal => x + y) (cnt_second m h d L j v hj) (cnt_second m h d (mateL L) j v hj)).trans ?_
  rw [row_mate, ← Nat.cast_add, halves]

/-! ## The weights -/

/-- The weight a tile writes at position `j` of its half is the position's weight. -/
theorem wts_apply (L : grid0.Coords) (j : S1024.Idx) :
    (wts (V0M m) (allInRange m h) d L j : EReal) = wt (codesM m d) (rowOf L) (1024 * ((L 1).val % 2) + (j 0).val) := by
  have hj : (j 0).val < 1024 := (j 0).isLt
  have hq : 16 * ((j 0).val / 16) + (j 0).val % 16 = (j 0).val := Nat.div_add_mod _ _
  have ex := codeX_lane (codes (V0M m) d L) (tripOf j) ⟨(j 0).val % 16, Nat.mod_lt _ (by decide)⟩
  have ey := codeY_lane (codes (V0M m) d L) (tripOf j) ⟨(j 0).val % 16, Nat.mod_lt _ (by decide)⟩
  have ex' := (ex.trans (congrArg (fun q => wordN (codes (V0M m) d L) (2 * q)) hq)).trans (word_eq m d L (j 0).val hj 0)
  have ey' := (ey.trans (congrArg (fun q => wordN (codes (V0M m) d L) (2 * q + 1)) hq)).trans (word_eq m d L (j 0).val hj 1)
  have lx := codeN_lt m h d (rowOf L) (1024 * ((L 1).val % 2) + (j 0).val) 0
  unfold wt freqN
  rw [Nat.cast_add]
  refine (show (wts (V0M m) (allInRange m h) d L j : EReal) = Ideal.div (Scalar.ofBits (F := Ideal) .f32 0x3F800000#32 : EReal)
    ((both (cnt (V0M m) (allInRange m h) d L) (cnt (V0M m) (allInRange m h) d (mateL L)) (idxAt (s := S640) ![codeX (codes (V0M m) d L) (tripOf j)] (codeX_ok (codes_ok _ (allInRange m h) d L) _) (laneOf j)) : EReal)
    + (both (cnt (V0M m) (allInRange m h) d L) (cnt (V0M m) (allInRange m h) d (mateL L)) (idxAt (s := S640) ![k0_pay12 (codeY (codes (V0M m) d L) (tripOf j))] (codeY_ok (codes_ok _ (allInRange m h) d L) _) (laneOf j)) : EReal)) from rfl).trans ?_
  rw [one_bits, both_first m h d L _ _ lx ex', both_second m h d L _ (codeN (codesM m d) (rowOf L) (1024 * ((L 1).val % 2) + (j 0).val) 1)
    ((pay12_val _ _ (codes_ok _ (allInRange m h) d L _)).trans (congrArg (· + 320) ey'))]

/-- The array of weights after the SparseCore call holds every position's weight. -/
theorem wtsAll_apply (b : Fin 16) (g : Fin 2) (q : Fin 1024) :
    (wtsAll (V0M m) (allInRange m h) d (ix3 b g q) : EReal) = wt (codesM m d) b (1024 * g.val + q.val) := by
  have hb := b.isLt
  have hg := g.isLt
  refine (wts_apply m h d (tileOf b g) (at1024 q)).trans ?_
  have e0 : rowOf (tileOf b g) = b := by
    apply Fin.ext
    show 8 * (b.val / 8) + (2 * (b.val % 8) + g.val) / 2 = b.val
    omega
  have e1 : ((tileOf b g) 1).val % 2 = g.val := by
    show (2 * (b.val % 8) + g.val) % 2 = g.val
    omega
  rw [e0, e1]
  rfl

end Counters

end Cert.Proof.Pool

end
-- ==== Proof.Pooled.lean ====
/-
  What the TensorCore's region leaves, over the extended reals: each grid point adds a block's weighted features to its batch row
  and the block's weights to the running sum, and the second point of a batch row divides.
-/
module

public import proofs.«01_k».proof.Proof.Tiles

@[expose] public section

set_option maxRecDepth 16384

noncomputable section

namespace Cert.Proof.Pool

open Cert.KernelIdeal Cert.KernelIdeal.Gen
open Idealize.ShloMosaic

/-! ## The body's operations, at an index -/

theorem slt_iff (a b : BitVec 32) (ha : a.toNat < 2 ^ 31) (hb : b.toNat < 2 ^ 31) : IntOp.cmpi .slt a b = 1#1 ↔ a.toNat < b.toNat := by
  have e : IntOp.cmpi .slt a b = BitVec.ofBool (a.slt b) := rfl
  rw [e, BitVec.slt, BitVec.toInt_eq_toNat_of_lt (by omega), BitVec.toInt_eq_toNat_of_lt (by omega)]
  by_cases q : a.toNat < b.toNat
  · simp [q]
  · simp [q]

/-- A block's weights, zero past the length. -/
theorem pay2_apply (i : grid1.Coords) (v : BitVec 32) (w : Vec Ideal S1x1x1024 .f32) (hv : LenOk v) (hb : (i 1).val * 1024 < v.toNat) (k : Fin 1024) :
    (k1_pay2 (F := Ideal) i v w v (ix2 (0 : Fin 1) k) : EReal) = if (i 1).val * 1024 + k.val < v.toNat then w (ix3 (0 : Fin 1) (0 : Fin 1) k) else 0 := by
  have e : (k1_pay2 (F := Ideal) i v w v) = select (cmpi .slt (addi (broadcast S1x1024 (Scalar.muli (Scalar.minsi (BitVec.ofNat 32 (i 1).val) (Scalar.subi (blocks v) 1#32)) 1024#32))
      (iota .tc S1x1024 32 [1] iota_S1x1024_d1_w32)) (broadcast S1x1024 v))
      (shapeCast S1x1024 (shapeCast S1024 w shapeCasts_S1x1x1024_S1024) shapeCasts_S1024_S1x1024) (broadcast S1x1024 (Scalar.ofBits (F := Ideal) .f32 0x00000000#32)) := rfl
  rw [e, blk_min i v hv, if_pos hb]
  pointwise
  have h1 := lt2 i
  have hk := k.isLt
  have hv2 := hv.2
  have ea : (IntOp.addi (Scalar.muli (BitVec.ofNat 32 (i 1).val) 1024#32) (BitVec.ofNat 32 k.val)).toNat = (i 1).val * 1024 + k.val := by
    show (BitVec.ofNat 32 (i 1).val * 1024#32 + BitVec.ofNat 32 k.val).toNat = _
    rw [BitVec.toNat_add, BitVec.toNat_mul, BitVec.toNat_ofNat, BitVec.toNat_ofNat, BitVec.toNat_ofNat]
    omega
  have eq := slt_iff (IntOp.addi (Scalar.muli (BitVec.ofNat 32 (i 1).val) 1024#32) (BitVec.ofNat 32 k.val)) v (by omega) (by omega)
  rw [ea] at eq
  unfold Scalar.select
  by_cases q : (i 1).val * 1024 + k.val < v.toNat
  · exact (if_pos (eq.mpr q)).trans (if_pos q).symm
  · exact (if_neg (fun h => q (eq.mp h))).trans (if_neg q).symm

/-- A row after a visited block: the block's weighted features added. -/
theorem pay3_apply (i : grid1.Coords) (v u : BitVec 32) (x : Vec Ideal S1x1x1024x1024 .f32) (w : Vec Ideal S1x1x1024 .f32) (o : Vec Ideal S1x1x1024 .f32) (d : Fin 1024) :
    (k1_pay3 (F := Ideal) i v x w u o (ix3 (0 : Fin 1) (0 : Fin 1) d) : EReal)
      = o (ix3 (0 : Fin 1) (0 : Fin 1) d) + ∑ k : Fin 1024, (k1_pay2 (F := Ideal) i v w u (ix2 (0 : Fin 1) k) : EReal) * x (ix4 (0 : Fin 1) (0 : Fin 1) k d) := by
  unfold k1_pay3
  pointwise

/-- The running sum after a visited block: the block's weights added. -/
theorem pay4_apply (i : grid1.Coords) (v u : BitVec 32) (w : Vec Ideal S1x1x1024 .f32) (s : EReal) :
    (k1_pay4 (F := Ideal) i v w u s : EReal) = s + ∑ k : Fin 1024, (k1_pay2 (F := Ideal) i v w u (ix2 (0 : Fin 1) k) : EReal) := by
  unfold k1_pay4
  pointwise
  rw [Fin.sum_univ_one]

/-- The last step of a row: divided by the running sum. -/
theorem pay5_apply (o : Vec Ideal S1x1x1024 .f32) (s : EReal) (d : Fin 1024) :
    (k1_pay5 (F := Ideal) o s (ix3 (0 : Fin 1) (0 : Fin 1) d) : EReal) = Ideal.div (o (ix3 (0 : Fin 1) (0 : Fin 1) d)) s := by
  unfold k1_pay5
  pointwise

/-! ## A grid point's step, at an index -/

/-- The masked weight of position `k` of a block. -/
def pw (v : BitVec 32) (W : FVec Ideal S16x2x1024 .f32) (b : Fin 16) (g : Fin 2) (k : Fin 1024) : EReal :=
  if g.val * 1024 + k.val < v.toNat then W (ix3 b g k) else 0

section Steps

variable (i : grid1.Coords) (v : BitVec 32) (x : Vec Ideal S1x1x1024x1024 .f32) (W : FVec Ideal S16x2x1024 .f32) (s : St Ideal) (hv : LenOk v)

/-- What a visited block adds to its row at `d`. -/
def rowSum (d : Fin 1024) : EReal := ∑ k : Fin 1024, pw v W (i 0 : Fin 16) (i 1 : Fin 2) k * x (ix4 (0 : Fin 1) (0 : Fin 1) k d)
/-- What a visited block adds to the running sum. -/
def wSum : EReal := ∑ k : Fin 1024, pw v W (i 0 : Fin 16) (i 1 : Fin 2) k

include hv in
theorem pay3_row (hb : (i 1).val * 1024 < v.toNat) (o : Vec Ideal S1x1x1024 .f32) (d : Fin 1024) :
    (k1_pay3 (F := Ideal) i v x (wRow W (i 0) (i 1)) v o (ix3 (0 : Fin 1) (0 : Fin 1) d) : EReal) = o (ix3 (0 : Fin 1) (0 : Fin 1) d) + rowSum i v x W d := by
  rw [pay3_apply]
  refine congrArg (_ + ·) (Finset.sum_congr rfl fun k _ => ?_)
  rw [pay2_apply i v _ hv hb]
  rfl

include hv in
theorem pay4_sum (hb : (i 1).val * 1024 < v.toNat) (t : EReal) :
    (k1_pay4 (F := Ideal) i v (wRow W (i 0) (i 1)) v t : EReal) = t + wSum i v W := by
  rw [pay4_apply]
  refine congrArg (_ + ·) (Finset.sum_congr rfl fun k _ => ?_)
  rw [pay2_apply i v _ hv hb]
  rfl

/-- A block past the length adds nothing. -/
theorem skip_row (hb : ¬ (i 1).val * 1024 < v.toNat) (d : Fin 1024) : rowSum i v x W d = 0 := by
  refine Finset.sum_eq_zero fun k _ => ?_
  have e : pw v W (i 0 : Fin 16) (i 1 : Fin 2) k = 0 := if_neg (by show ¬ ((i 1).val * 1024 + k.val < _); omega)
  rw [e, zero_mul]

theorem skip_sum (hb : ¬ (i 1).val * 1024 < v.toNat) : wSum i v W = 0 := by
  refine Finset.sum_eq_zero fun k _ => ?_
  exact if_neg (by show ¬ ((i 1).val * 1024 + k.val < _); omega)

include hv in
/-- The first point of a batch row, entered with that row and the later ones at zero. -/
theorem step_even (h1 : (i 1).val = 0) (hz : ∀ (b : Fin 16) (d : Fin 1024), (i 0).val ≤ b.val → (s.1 (ix3 (0 : Fin 1) b d) : EReal) = 0) :
    (∀ (b : Fin 16) (d : Fin 1024), ((step i v x W s).1 (ix3 (0 : Fin 1) b d) : EReal)
      = if b.val = (i 0).val then rowSum i v x W d else s.1 (ix3 (0 : Fin 1) b d))
    ∧ ((step i v x W s).2 : EReal) = wSum i v W := by
  have hb : (i 1).val * 1024 < v.toNat := by have := hv.1; omega
  have e1 : (if (i 0).val = 0 ∧ (i 1).val = 0 then k1_pay1 (F := Ideal) else s.1 : Vec Ideal S1x16x1024 .f32) = s.1 := by
    split_ifs with q
    · funext j
      idx_vars j
      obtain rfl : j0 = 0 := Subsingleton.elim _ _
      exact zero_bits.trans (hz j1 j2 (by omega)).symm
    · rfl
  have e : step i v x W s = (putRow s.1 (i 0) (k1_pay3 (F := Ideal) i v x (wRow W (i 0) (i 1)) v (rowAt s.1 (i 0))), k1_pay4 (F := Ideal) i v (wRow W (i 0) (i 1)) v (Scalar.ofBits (F := Ideal) .f32 0x00000000#32)) := by
    unfold step
    have hc : ¬ (i 1).val = 1 := by omega
    simp only [e1, if_pos h1, if_pos hb, if_neg hc]
  rw [e]
  refine ⟨fun b d => ?_, ?_⟩
  · show ((if b.val = (i 0).val then _ else _ : EReal)) = _
    split_ifs with q
    · refine (pay3_row i v x W hv hb _ d).trans ?_
      have q' : (i 0 : Fin 16) = b := Fin.ext q.symm
      refine (congrArg (· + rowSum i v x W d) (hz (i 0) d (le_refl _))).trans (zero_add _)
    · rfl
  · refine (pay4_sum i v W hv hb _).trans ?_
    rw [zero_bits, zero_add]

include hv in
/-- The second point of a batch row. -/
theorem step_odd (h1 : (i 1).val = 1) :
    (∀ (b : Fin 16) (d : Fin 1024), ((step i v x W s).1 (ix3 (0 : Fin 1) b d) : EReal)
      = if b.val = (i 0).val then Ideal.div (s.1 (ix3 (0 : Fin 1) b d) + rowSum i v x W d) (s.2 + wSum i v W) else s.1 (ix3 (0 : Fin 1) b d)) := by
  have hc : ¬ (i 1).val = 0 := by omega
  have hc' : ¬ ((i 0).val = 0 ∧ (i 1).val = 0) := fun h => hc h.2
  intro b d
  by_cases hb : (i 1).val * 1024 < v.toNat
  · have e : (step i v x W s).1 = putRow (putRow s.1 (i 0) (k1_pay3 (F := Ideal) i v x (wRow W (i 0) (i 1)) v (rowAt s.1 (i 0)))) (i 0)
        (k1_pay5 (F := Ideal) (rowAt (putRow s.1 (i 0) (k1_pay3 (F := Ideal) i v x (wRow W (i 0) (i 1)) v (rowAt s.1 (i 0)))) (i 0)) (k1_pay4 (F := Ideal) i v (wRow W (i 0) (i 1)) v s.2)) := by
      unfold step
      simp only [if_neg hc, if_neg hc', if_pos h1, if_pos hb]
    rw [e]
    show ((if b.val = (i 0).val then _ else (if b.val = (i 0).val then _ else _) : EReal)) = _
    split_ifs with q
    · refine (pay5_apply _ _ d).trans ?_
      refine congrArg₂ Ideal.div ((congrFun (rowAt_putRow _ (i 0) _) _).trans ((pay3_row i v x W hv hb _ d).trans ?_)) (pay4_sum i v W hv hb _)
      have q' : (i 0 : Fin 16) = b := Fin.ext q.symm
      show (s.1 (ix3 (0 : Fin 1) (i 0 : Fin 16) d) : EReal) + _ = _
      rw [q']
    · rfl
  · have e : (step i v x W s).1 = putRow s.1 (i 0) (k1_pay5 (F := Ideal) (rowAt s.1 (i 0)) s.2) := by
      unfold step
      simp only [if_neg hc, if_neg hc', if_pos h1, if_neg hb]
    rw [e, skip_row i v x W hb, skip_sum i v W hb]
    show ((if b.val = (i 0).val then _ else _ : EReal)) = _
    split_ifs with q
    · refine (pay5_apply _ _ d).trans ?_
      have q' : (i 0 : Fin 16) = b := Fin.ext q.symm
      show Ideal.div (s.1 (ix3 (0 : Fin 1) (i 0 : Fin 16) d) : EReal) _ = Ideal.div (_ + (0 : EReal)) (_ + (0 : EReal))
      rw [q', add_zero, add_zero]
    · rfl

end Steps

end Cert.Proof.Pool

end
-- ==== Proof.PooledRow.lean ====
/-
  All thirty-two grid points together: the rows the kernel leaves are the pooled rows of Weight.lean.
-/
module

public import proofs.«01_k».proof.Proof.Pooled

@[expose] public section

set_option maxRecDepth 16384

noncomputable section

namespace Cert.Proof.Pool

open Cert.KernelIdeal Cert.KernelIdeal.Gen
open Idealize.ShloMosaic

/-- Position `k` of block `g`. -/
def pos (g : Fin 2) (k : Fin 1024) : Fin 2048 := ⟨g.val * 1024 + k.val, by have := g.isLt; have := k.isLt; omega⟩

section Grid

variable (X0 : FVec Ideal S16x2x2048x1024 .f32) (l : IVec S16 32) (W : FVec Ideal S16x2x1024 .f32)

/-- A block's weighted features, and a block's weights. -/
def part (b : Fin 16) (g : Fin 2) (d : Fin 1024) : EReal := ∑ k : Fin 1024, pw (l (ix1 b)) W b g k * X0 (ix4 b (1 : Fin 2) (pos g k) d)
def wpart (b : Fin 16) (g : Fin 2) : EReal := ∑ k : Fin 1024, pw (l (ix1 b)) W b g k

/-- What a point adds to its row: a block it does not visit has no weight. -/
theorem rowSum_eq (i : grid1.Coords) (d : Fin 1024) :
    rowSum i (lenWord (F := Ideal) l i) (xBlk (F := Ideal) X0 l i) W d = part X0 l W (i 0 : Fin 16) (i 1 : Fin 2) d := by
  by_cases hb : (i 1).val * 1024 < (lenWord (F := Ideal) l i).toNat
  · refine Finset.sum_congr rfl fun k _ => congrArg (pw (l (ix1 (i 0 : Fin 16))) W (i 0 : Fin 16) (i 1 : Fin 2) k * ·) ?_
    refine congrArg X0 (congrArg (fun p : Fin 2048 => ix4 (i 0 : Fin 16) (1 : Fin 2) p d) (Fin.ext ?_))
    show (if (i 1).val * 1024 < (lenWord (F := Ideal) l i).toNat then (i 1).val else 0) * 1024 + k.val = (i 1).val * 1024 + k.val
    rw [if_pos hb]
  · rw [skip_row i _ _ W hb d]
    refine (Finset.sum_eq_zero fun k _ => ?_).symm
    have e : pw (l (ix1 (i 0 : Fin 16))) W (i 0 : Fin 16) (i 1 : Fin 2) k = 0 := if_neg (by
      show ¬ ((i 1).val * 1024 + k.val < (lenWord (F := Ideal) l i).toNat); omega)
    rw [e, zero_mul]

/-- What row `b` holds in the end. -/
def rowG (b : Fin 16) (d : Fin 1024) : EReal := Ideal.div (part X0 l W b 0 d + part X0 l W b 1 d) (wpart l W b 0 + wpart l W b 1)

theorem coords_of : ∀ t : Fin grid1.N, (grid1.coords t 0).val = t.val / 2 ∧ (grid1.coords t 1).val = t.val % 2 := by decide +kernel
theorem points : grid1.N = 32 := by decide

/-- After both points of the first `n` batch rows those rows are final and the others zero. -/
theorem stAt_even (hl : ∀ b : Fin 16, LenOk (l (ix1 b))) (n : ℕ) (hn : n ≤ 16) (b : Fin 16) (d : Fin 1024) :
    ((stAt (F := Ideal) X0 l W (2 * n)).1 (ix3 (0 : Fin 1) b d) : EReal) = if b.val < n then rowG X0 l W b d else 0 := by
  induction n generalizing b d with
  | zero => exact zero_bits.trans (if_neg (by omega)).symm
  | succ n ih =>
    have lt0 : 2 * n < grid1.N := by rw [points]; omega
    have lt1 : 2 * n + 1 < grid1.N := by rw [points]; omega
    obtain ⟨a0, a1⟩ := coords_of ⟨2 * n, lt0⟩
    obtain ⟨c0, c1⟩ := coords_of ⟨2 * n + 1, lt1⟩
    have a0' : (grid1.coords ⟨2 * n, lt0⟩ 0).val = n := by rw [a0]; show 2 * n / 2 = n; omega
    have a1' : (grid1.coords ⟨2 * n, lt0⟩ 1).val = 0 := by rw [a1]; show 2 * n % 2 = 0; omega
    have c0' : (grid1.coords ⟨2 * n + 1, lt1⟩ 0).val = n := by rw [c0]; show (2 * n + 1) / 2 = n; omega
    have c1' : (grid1.coords ⟨2 * n + 1, lt1⟩ 1).val = 1 := by rw [c1]; show (2 * n + 1) % 2 = 1; omega
    obtain ⟨ev, ew⟩ := step_even (grid1.coords ⟨2 * n, lt0⟩) (lenWord (F := Ideal) l (grid1.coords ⟨2 * n, lt0⟩)) (xBlk (F := Ideal) X0 l (grid1.coords ⟨2 * n, lt0⟩)) W
      (stAt (F := Ideal) X0 l W (2 * n)) (hl _) a1' (fun b' d' hb' => by
        refine (ih (by omega) b' d').trans (if_neg ?_)
        rw [a0'] at hb'; omega)
    have od := step_odd (grid1.coords ⟨2 * n + 1, lt1⟩) (lenWord (F := Ideal) l (grid1.coords ⟨2 * n + 1, lt1⟩)) (xBlk (F := Ideal) X0 l (grid1.coords ⟨2 * n + 1, lt1⟩)) W
      (stAt (F := Ideal) X0 l W (2 * n + 1)) (hl _) c1' b d
    have s1 := stAt_succ (F := Ideal) X0 l W ⟨2 * n, lt0⟩
    have s2 := stAt_succ (F := Ideal) X0 l W ⟨2 * n + 1, lt1⟩
    have v1 : ∀ (b : Fin 16) (d : Fin 1024), ((stAt (F := Ideal) X0 l W (2 * n + 1)).1 (ix3 (0 : Fin 1) b d) : EReal)
        = if b.val = n then part X0 l W b 0 d else (stAt (F := Ideal) X0 l W (2 * n)).1 (ix3 (0 : Fin 1) b d) := by
      intro b d
      refine (congrFun (congrArg Prod.fst s1) _).trans ((ev b d).trans ?_)
      rw [a0', rowSum_eq]
      split_ifs with q
      · exact congrArg₂ (fun x y => part X0 l W x y d) (Fin.ext (a0'.trans q.symm)) (Fin.ext a1')
      · rfl
    have w1 : ∀ b : Fin 16, b.val = n → ((stAt (F := Ideal) X0 l W (2 * n + 1)).2 : EReal) = wpart l W b 0 := by
      intro b q
      refine (congrArg Prod.snd s1).trans (ew.trans ?_)
      exact congrArg₂ (fun x y => wpart l W x y) (Fin.ext (a0'.trans q.symm)) (Fin.ext a1')
    refine (congrFun (congrArg Prod.fst s2) _).trans (od.trans ?_)
    rw [c0', rowSum_eq]
    by_cases q : b.val = n
    · rw [if_pos q, if_pos (by omega)]
      refine congrArg₂ Ideal.div (congrArg₂ (· + ·) ((v1 b d).trans (if_pos q)) ?_) (congrArg₂ (· + ·) (w1 b q) ?_)
      · exact congrArg₂ (fun x y => part X0 l W x y d) (Fin.ext (c0'.trans q.symm)) (Fin.ext c1')
      · exact congrArg₂ (fun x y => wpart l W x y) (Fin.ext (c0'.trans q.symm)) (Fin.ext c1')
    · rw [if_neg q]
      refine ((v1 b d).trans (if_neg q)).trans ((ih (by omega) b d).trans ?_)
      by_cases q' : b.val < n
      · rw [if_pos q', if_pos (by omega)]
      · rw [if_neg q', if_neg (by omega)]

end Grid

/-! ## The kernel's result -/

theorem sum_blocks (f : Fin 2048 → EReal) : ∑ p : Fin 2048, f p = (∑ k : Fin 1024, f (pos 0 k)) + ∑ k : Fin 1024, f (pos 1 k) := by
  refine (Fin.sum_univ_tiles 2 1024 rfl f).trans ?_
  rw [Fin.sum_univ_two]
  rfl

section Result

variable (m : (ℓ : Loc nD τ sig) → Buf (Elt Ideal) ℓ) (h : InOk m) (d : Dev nD)

theorem pw_eq (b : Fin 16) (g : Fin 2) (k : Fin 1024) :
    pw (lensM m d (ix1 b)) (wtsAll (V0M m) (allInRange m h) d) b g k = wtM (lensM m d) (codesM m d) b (pos g k).val := by
  unfold pw wtM
  rw [wtsAll_apply m h d b g k]
  show _ = if g.val * 1024 + k.val < _ then wt _ b (g.val * 1024 + k.val) else 0
  rw [mul_comm 1024]

/-- The kernel's result is the pooled rows. -/
theorem outM_apply (b : Fin 16) (e : Fin 1024) :
    (outM m h d (ix2 b e) : EReal) = pool (featM m d) (lensM m d) (codesM m d) b e := by
  have r : outM m h d (ix2 b e) = pooled m h d (ix3 (0 : Fin 1) b e) := by
    unfold outM
    pointwise
  refine r.trans ((stAt_even (featM m d) (lensM m d) (wtsAll (V0M m) (allInRange m h) d) (fun b => h.len d _) 16 (le_refl _) b e).trans ?_)
  rw [if_pos b.isLt]
  unfold rowG pool total part wpart
  rw [sum_blocks, sum_blocks]
  refine congrArg₂ Ideal.div (congrArg₂ (· + ·) ?_ ?_) (congrArg₂ (· + ·) ?_ ?_)
  · exact Finset.sum_congr rfl fun k _ => congrArg (· * _) (pw_eq m h d b 0 k)
  · exact Finset.sum_congr rfl fun k _ => congrArg (· * _) (pw_eq m h d b 1 k)
  · exact Finset.sum_congr rfl fun k _ => pw_eq m h d b 0 k
  · exact Finset.sum_congr rfl fun k _ => pw_eq m h d b 1 k

end Result

end Cert.Proof.Pool

end
-- ==== Proof.Ref.lean ====
/-
  The reference, read at an index over the extended reals: its counts are occurrence counts, its mask and its weights those of
  Weight.lean, and its result the pooled rows.
-/
module

public import proofs.«01_k».proof.Proof.Weight
public import proofs.«01_k».proof.Proof.Gen.ReferenceIdeal
public import proofs.«01_k».proof.Proof.Gen.ReferenceIdeal.Run
public import Idealize.ShloMosaic.Lib.Pointwise
public import Idealize.ShloMosaic.Lib.ReduceAll
public import Idealize.ShloMosaic.Lib.ValueIdxCore
public import Idealize.ShloMosaic.Lib.Routing.OpsPair

@[expose] public section

set_option maxRecDepth 16384

noncomputable section

namespace Cert.Proof.Ref

open Cert.ReferenceIdeal Cert.ReferenceIdeal.Gen
open Idealize.ShloMosaic

/-! ## The reference's steps -/

/-- The first codes and the second codes. -/
def vx (c : IVec S16x2048x2 32) : IVec S16x2048 32 :=
  shapeCast _ (extractStridedSlice S16x2048x1 ![0, 0, 0] c slices_S16x2048x2_S16x2048x1_0_0_0) shapeCasts_S16x2048x1_S16x2048
def vy (c : IVec S16x2048x2 32) : IVec S16x2048 32 :=
  shapeCast _ (extractStridedSlice S16x2048x1 ![0, 0, 1] c slices_S16x2048x2_S16x2048x1_0_0_1) shapeCasts_S16x2048x1_S16x2048

/-- An index counted from the end where it is negative. -/
def wrap (n : BitVec 32) (v : IVec S16x2048 32) : IVec S16x2048 32 :=
  select (cmpi .slt v (broadcastInDim S16x2048 ![] bcast_S_S16x2048 (constantI S_ 32 0#32)))
    (addi v (broadcastInDim S16x2048 ![] bcast_S_S16x2048 (constantI S_ 32 n))) v

/-- Every position's batch row. -/
def bidx : IVec S16x2048 32 := broadcastInDim S16x2048 ![0, 1] bcast_S16x1_S16x2048_0_1 (broadcastInDim S16x1 ![0] bcast_S16_S16x1_0 (iotaInDim S16 32 0))

/-- Every position's counter: its batch row and its code. -/
def where2 (v : IVec S16x2048 32) : IVec S16x2048x2 32 :=
  concatenate S16x2048x2 2 [⟨S16x2048x1, (broadcastInDim S16x2048x1 ![0, 1] bcast_S16x2048_S16x2048x1_0_1 (wrap 16#32 bidx))⟩,
    ⟨S16x2048x1, (broadcastInDim S16x2048x1 ![0, 1] bcast_S16x2048_S16x2048x1_0_1 v)⟩] concatenates_S16x2048x1_S16x2048x1_S16x2048x2_d2

/-- The counts of the codes. -/
def counts (v : IVec S16x2048 32) : FVec Ideal S16x320 .f32 :=
  Host.scatterAdd scatter_S16x320_S16x2048x2_S16x2048_n_01_01_2 (broadcastInDim S16x320 ![] bcast_S_S16x320 (constant (F := Ideal) S_ .f32 0x00000000#32))
    (where2 v) (broadcastInDim S16x2048 ![] bcast_S_S16x2048 (constant (F := Ideal) S_ .f32 0x3F800000#32))

/-- Whether a code names a counter. -/
def inside (v : IVec S16x2048 32) : IVec S16x2048 1 :=
  Host.reduce IntOp.andi (andi (cmpi .sge (shapeCast S16x2048x1 v shapeCasts_S16x2048_S16x2048x1) (broadcastInDim S16x2048x1 ![] bcast_S_S16x2048x1 (constantI S_ 32 0#32)))
    (cmpi .sle (shapeCast S16x2048x1 v shapeCasts_S16x2048_S16x2048x1) (broadcastInDim S16x2048x1 ![0, 1, 2] bcast_S1x1x1_S16x2048x1_0_1_2 (broadcastInDim S1x1x1 ![2] bcast_S1_S1x1x1_2 (constantI S1 32 319#32)))))
    (constantI S_ 1 1#1) reducesTo_S16x2048x1_S16x2048_d2 h_S_

/-- The count of every position's code. -/
def taken (v : IVec S16x2048 32) : FVec Ideal S16x2048 .f32 :=
  select (inside v) (Host.gather gather_S16x320_S16x2048x1_S16x2048_n_1_0_0_1_2_11 (counts v) (shapeCast S16x2048x1 v shapeCasts_S16x2048_S16x2048x1))
    (broadcastInDim S16x2048 ![] bcast_S_S16x2048 (constant (F := Ideal) S_ .f32 0x7FC00000#32))

/-- One before the end of the batch row, zero past it. -/
def mask (l : IVec S16 32) : FVec Ideal S16x2048 .f32 :=
  uitofp .f32 (cmpi .slt (broadcastInDim S16x2048 ![0, 1] bcast_S1x2048_S16x2048_0_1 (broadcastInDim S1x2048 ![1] bcast_S2048_S1x2048_1 (iotaInDim S2048 32 0)))
    (broadcastInDim S16x2048 ![0, 1] bcast_S16x1_S16x2048_0_1 (broadcastInDim S16x1 ![0] bcast_S16_S16x1_0 l)))

/-- The mask over the sum of both counts. -/
def prob (l : IVec S16 32) (v w : IVec S16x2048 32) : FVec Ideal S16x2048 .f32 := Host.divf (mask l) (addf (taken v) (taken w))

/-- The weights: normalised, and masked again. -/
def weights (l : IVec S16 32) (v w : IVec S16x2048 32) : FVec Ideal S16x2048 .f32 :=
  mulf (Host.divf (prob l v w) (broadcastInDim S16x2048 ![0, 1] bcast_S16x1_S16x2048_0_1 (broadcastInDim S16x1 ![0] bcast_S16_S16x1_0
    (Host.reduceAdd (prob l v w) (constant (F := Ideal) S_ .f32 0x00000000#32) reducesTo_S16x2048_S16_d1 h_S_)))) (mask l)

/-- The result. -/
def result (x : FVec Ideal S16x2x2048x1024 .f32) (l : IVec S16 32) (v w : IVec S16x2048 32) : FVec Ideal S16x1024 .f32 :=
  Host.reduceAdd (mulf (shapeCast _ (extractStridedSlice S16x1x2048x1024 ![0, 1, 0, 0] x slices_S16x2x2048x1024_S16x1x2048x1024_0_1_0_0) shapeCasts_S16x1x2048x1024_S16x2048x1024)
    (broadcastInDim S16x2048x1024 ![0, 1, 2] bcast_S16x2048x1_S16x2048x1024_0_1_2 (broadcastInDim S16x2048x1 ![0, 1] bcast_S16x2048_S16x2048x1_0_1 (weights l v w))))
    (constant (F := Ideal) S_ .f32 0x00000000#32) reducesTo_S16x2048x1024_S16x1024_d1 h_S_

/-- What the reference's run leaves is these steps in a row. -/
theorem res_eq (m : (ℓ : Loc nD τ sig) → Buf (Elt Ideal) ℓ) (c : Dev nD) :
    Value.res_main_v60 (F := Ideal) m c = result (m ((c.tc : Thread nD τ).loc main_arg0)) (m ((c.tc : Thread nD τ).loc main_arg1))
      (wrap 320#32 (vx (m ((c.tc : Thread nD τ).loc main_arg2)))) (wrap 320#32 (vy (m ((c.tc : Thread nD τ).loc main_arg2)))) := rfl

/-! ## The steps at an index -/

theorem vx_apply (c : IVec S16x2048x2 32) (b : Fin 16) (p : Fin 2048) : vx c (ix2 b p) = c (ix3 b p (0 : Fin 2)) := by
  unfold vx; pointwise
theorem vy_apply (c : IVec S16x2048x2 32) (b : Fin 16) (p : Fin 2048) : vy c (ix2 b p) = c (ix3 b p (1 : Fin 2)) := by
  unfold vy; pointwise

theorem wrap_eq (n : BitVec 32) (v : IVec S16x2048 32) (hv : ∀ j, (v j).toNat < 2 ^ 31) : wrap n v = v := by
  funext j
  exact Routing.wrap_of_lt (v j) _ (hv j)

theorem bidx_apply (b : Fin 16) (p : Fin 2048) : bidx (ix2 b p) = BitVec.ofNat 32 b.val := by
  unfold bidx; pointwise

theorem bidx_lt (j : S16x2048.Idx) : (bidx j).toNat < 2 ^ 31 := by
  idx_vars j
  rw [bidx_apply, BitVec.toNat_ofNat]
  omega

theorem where_row (v : IVec S16x2048 32) (b : Fin 16) (p : Fin 2048) : where2 v (ix3 b p (0 : Fin 2)) = BitVec.ofNat 32 b.val := by
  unfold where2
  rw [wrap_eq _ _ bidx_lt]
  pointwise
  exact bidx_apply b p

theorem where_code (v : IVec S16x2048 32) (b : Fin 16) (p : Fin 2048) : where2 v (ix3 b p (1 : Fin 2)) = v (ix2 b p) := by
  unfold where2
  pointwise

theorem one_bits : Ideal.ofBits .f32 0x3F800000#32 = 1 := by
  simp [Ideal.ofBits, Ideal.ieee, -EReal.coe_mul]; norm_num

theorem toInt_small (x : BitVec 32) (h : x.toNat < 2 ^ 31) : x.toInt = (x.toNat : ℤ) := BitVec.toInt_eq_toNat_of_lt (by omega)

/-- The counter of code `n` in batch row `b` holds how many positions of the row have that code. -/
theorem counts_apply (v : IVec S16x2048 32) (hv : ∀ j, (v j).toNat < 320) (b : Fin 16) (n : Fin 320) :
    (counts v (ix2 b n) : EReal) = ((∑ q : Fin 2048, if (v (ix2 b q)).toNat = n.val then 1 else 0 : ℕ) : EReal) := by
  have lands : ∀ (a : Fin 16) (q : Fin 2048), (scatter_S16x320_S16x2048x2_S16x2048_n_01_01_2.resultIdx? (ix2 a q) (where2 v) = some (ix2 b n))
      ↔ (a = b ∧ (v (ix2 a q)).toNat = n.val) := by
    intro a q
    refine (Routing.scatter_lands2 (R := 16) (C := 320) (A := 16) (B := 2048) scatter_S16x320_S16x2048x2_S16x2048_n_01_01_2 rfl rfl rfl (where2 v) a q b n).trans ?_
    have e0 := where_row v a q
    have e1 := where_code v a q
    have ha := a.isLt
    have hq := hv (ix2 a q)
    have i0 : (where2 v (ix3 a q (0 : Fin 2))).toInt = (a.val : ℤ) := by
      rw [e0, toInt_small _ (by rw [BitVec.toNat_ofNat]; omega), BitVec.toNat_ofNat, Nat.mod_eq_of_lt (by omega)]
    have i1 : (where2 v (ix3 a q (1 : Fin 2))).toInt = ((v (ix2 a q)).toNat : ℤ) := by
      rw [e1, toInt_small _ (by omega)]
    constructor
    · rintro ⟨h0, h1⟩
      exact ⟨Fin.ext (by exact_mod_cast i0.symm.trans h0), by exact_mod_cast i1.symm.trans h1⟩
    · rintro ⟨h0, h1⟩
      exact ⟨i0.trans (by rw [h0]), i1.trans (by rw [h1])⟩
  have e : (counts v (ix2 b n) : EReal) = Ideal.ofBits .f32 0x00000000#32
      + ∑ j ∈ Finset.univ.filter (fun j => scatter_S16x320_S16x2048x2_S16x2048_n_01_01_2.resultIdx? j (where2 v) = some (ix2 b n)), Ideal.ofBits .f32 0x3F800000#32 := rfl
  have z : Ideal.ofBits .f32 0x00000000#32 = 0 := by simp [Ideal.ofBits, Ideal.ieee, -EReal.coe_mul]
  rw [e, z, one_bits, zero_add, Finset.sum_filter, sum_idx2, Finset.sum_eq_single b, Nat.cast_sum]
  · refine Finset.sum_congr rfl fun q _ => ?_
    by_cases h : (v (ix2 b q)).toNat = n.val
    · rw [if_pos ((lands b q).mpr ⟨rfl, h⟩), if_pos h, Nat.cast_one]
    · rw [if_neg (fun g => h ((lands b q).mp g).2), if_neg h, Nat.cast_zero]
  · intro a _ hab
    exact Finset.sum_eq_zero fun q _ => if_neg fun g => hab ((lands a q).mp g).1
  · intro h; exact absurd (Finset.mem_univ _) h

/-- The gather along the counters of a batch row reads the counter its word names, the word clamped into the row. -/
theorem gather_apply (x : FVec Ideal S16x320 .f32) (idx : IVec S16x2048x1 32) (b : Fin 16) (p : Fin 2048) :
    Host.gather gather_S16x320_S16x2048x1_S16x2048_n_1_0_0_1_2_11 x idx (ix2 b p)
      = x (ix2 b (⟨min (idx (ix3 b p (0 : Fin 1))).toInt.toNat 319, by omega⟩ : Fin 320)) := by
  unfold Host.gather
  refine congrArg x (funext fun a => Fin.ext ?_)
  have batch : (0 : Fin 2) ∈ gather_S16x320_S16x2048x1_S16x2048_n_1_0_0_1_2_11.operandBatchingDims := List.mem_singleton.mpr rfl
  have mapped : (1 : Fin 2) ∈ gather_S16x320_S16x2048x1_S16x2048_n_1_0_0_1_2_11.startIndexMap := List.mem_singleton.mpr rfl
  match a with
  | ⟨0, _⟩ =>
    show gather_S16x320_S16x2048x1_S16x2048_n_1_0_0_1_2_11.start (ix2 b p) idx 0 + gather_S16x320_S16x2048x1_S16x2048_n_1_0_0_1_2_11.batchCoord (ix2 b p) 0
      + gather_S16x320_S16x2048x1_S16x2048_n_1_0_0_1_2_11.offCoord (ix2 b p) 0 = b.val
    rw [GatherDims.start_batching _ _ _ _ batch, GatherDims.offCoord_eq_zero _ _ _ (fun h => ((GatherDims.mem_sKept _ _).mp h).2 batch), Nat.zero_add, Nat.add_zero]
    unfold GatherDims.batchCoord
    rw [dif_pos batch]
    rfl
  | ⟨1, _⟩ =>
    show gather_S16x320_S16x2048x1_S16x2048_n_1_0_0_1_2_11.start (ix2 b p) idx 1 + gather_S16x320_S16x2048x1_S16x2048_n_1_0_0_1_2_11.batchCoord (ix2 b p) 1
      + gather_S16x320_S16x2048x1_S16x2048_n_1_0_0_1_2_11.offCoord (ix2 b p) 1 = min (idx (ix3 b p (0 : Fin 1))).toInt.toNat 319
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    rw [dif_pos mapped]
    have hsi : gather_S16x320_S16x2048x1_S16x2048_n_1_0_0_1_2_11.siIdx (ix2 b p)
        ⟨List.idxOf (1 : Fin 2) gather_S16x320_S16x2048x1_S16x2048_n_1_0_0_1_2_11.startIndexMap, List.idxOf_lt_length_iff.2 mapped⟩ = ix3 b p (0 : Fin 1) := by
      funext q
      refine Fin.ext ?_
      match q with
      | ⟨0, _⟩ => rfl
      | ⟨1, _⟩ => rfl
      | ⟨2, _⟩ => rfl
    rw [hsi]
    rfl

/-- A code in range names a counter. -/
theorem inside_one (v : IVec S16x2048 32) (hv : ∀ j, (v j).toNat < 320) (j : S16x2048.Idx) : inside v j = 1#1 := by
  refine Host.reduce_andi_one _ _ _ _ _ rfl fun i => ?_
  idx_vars i
  pointwise
  have h : ∀ n : Fin 320, IntOp.andi (IntOp.cmpi .sge (BitVec.ofNat 32 n.val) 0#32) (IntOp.cmpi .sle (BitVec.ofNat 32 n.val) 319#32) = 1#1 := by decide +kernel
  have e := h ⟨_, hv (ix2 i0 i1)⟩
  rwa [BitVec.ofNat_toNat, BitVec.setWidth_eq] at e

/-- The count taken at a position is the count of its code. -/
theorem taken_apply (v : IVec S16x2048 32) (hv : ∀ j, (v j).toNat < 320) (b : Fin 16) (p : Fin 2048) :
    (taken v (ix2 b p) : EReal) = ((∑ q : Fin 2048, if (v (ix2 b q)).toNat = (v (ix2 b p)).toNat then 1 else 0 : ℕ) : EReal) := by
  have hp := hv (ix2 b p)
  have e : (shapeCast S16x2048x1 v shapeCasts_S16x2048_S16x2048x1) (ix3 b p (0 : Fin 1)) = v (ix2 b p) := by pointwise
  have n : min ((shapeCast S16x2048x1 v shapeCasts_S16x2048_S16x2048x1) (ix3 b p (0 : Fin 1))).toInt.toNat 319 = (v (ix2 b p)).toNat := by
    rw [e, toInt_small _ (by omega), Int.toNat_natCast]
    omega
  have t : taken v (ix2 b p) = Scalar.select (inside v (ix2 b p))
      (Host.gather gather_S16x320_S16x2048x1_S16x2048_n_1_0_0_1_2_11 (counts v) (shapeCast S16x2048x1 v shapeCasts_S16x2048_S16x2048x1) (ix2 b p))
      (Ideal.ofBits .f32 0x7FC00000#32) := rfl
  have s1 : ∀ x y : EReal, Scalar.select 1#1 x y = x := fun _ _ => rfl
  rw [t, inside_one v hv (ix2 b p), gather_apply, s1, counts_apply v hv]
  simp only [n]

theorem slt_iff (a b : BitVec 32) (ha : a.toNat < 2 ^ 31) (hb : b.toNat < 2 ^ 31) : IntOp.cmpi .slt a b = BitVec.ofBool (decide (a.toNat < b.toNat)) := by
  have e : IntOp.cmpi .slt a b = BitVec.ofBool (a.slt b) := rfl
  rw [e, BitVec.slt, toInt_small a ha, toInt_small b hb]
  simp only [Nat.cast_lt]

/-- The mask is one before the end of the batch row and zero past it. -/
theorem mask_apply (l : IVec S16 32) (b : Fin 16) (p : Fin 2048) (hl : (l (ix1 b)).toNat ≤ 2048) :
    (mask l (ix2 b p) : EReal) = if p.val < (l (ix1 b)).toNat then 1 else 0 := by
  have hp := p.isLt
  have c : cmpi .slt (broadcastInDim S16x2048 ![0, 1] bcast_S1x2048_S16x2048_0_1 (broadcastInDim S1x2048 ![1] bcast_S2048_S1x2048_1 (iotaInDim S2048 32 0)))
      (broadcastInDim S16x2048 ![0, 1] bcast_S16x1_S16x2048_0_1 (broadcastInDim S16x1 ![0] bcast_S16_S16x1_0 l)) (ix2 b p)
      = IntOp.cmpi .slt (BitVec.ofNat 32 p.val) (l (ix1 b)) := by pointwise
  have t : (BitVec.ofNat 32 p.val).toNat = p.val := by rw [BitVec.toNat_ofNat]; omega
  have e : (mask l (ix2 b p) : EReal) = (((IntOp.cmpi .slt (BitVec.ofNat 32 p.val) (l (ix1 b))).toNat : ℝ) : EReal) :=
    congrArg (fun w : BitVec 1 => ((w.toNat : ℝ) : EReal)) c
  rw [e, slt_iff _ _ (by omega) (by omega), t]
  by_cases q : p.val < (l (ix1 b)).toNat
  · rw [if_pos q, decide_eq_true q, show (BitVec.ofBool true).toNat = 1 from rfl, Nat.cast_one, EReal.coe_one]
  · rw [if_neg q, decide_eq_false q, show (BitVec.ofBool false).toNat = 0 from rfl, Nat.cast_zero, EReal.coe_zero]

/-! ## The reference's numbers are those of Weight.lean -/

section Values

variable (x : FVec Ideal S16x2x2048x1024 .f32) (l : IVec S16 32) (c : IVec S16x2048x2 32)
variable (hl : ∀ b : Fin 16, 1 ≤ (l (ix1 b)).toNat ∧ (l (ix1 b)).toNat ≤ 2048) (hc : ∀ j, (c j).toNat < 320)

theorem codeN_fin (b : Fin 16) (p : Fin 2048) (z : Fin 2) : Pool.codeN c b p.val z = (c (ix3 b p z)).toNat := by
  unfold Pool.codeN
  refine congrArg (fun q : Fin 2048 => (c (ix3 b q z)).toNat) (Fin.ext ?_)
  exact Nat.mod_eq_of_lt p.isLt

include hc in
theorem vx_lt (j : S16x2048.Idx) : (vx c j).toNat < 320 := by
  idx_vars j
  rw [vx_apply]; exact hc _
include hc in
theorem vy_lt (j : S16x2048.Idx) : (vy c j).toNat < 320 := by
  idx_vars j
  rw [vy_apply]; exact hc _

include hc in
theorem taken_x (b : Fin 16) (p : Fin 2048) : (taken (vx c) (ix2 b p) : EReal) = ((Pool.occ c b 0 (Pool.codeN c b p.val 0) : ℕ) : EReal) := by
  rw [taken_apply _ (vx_lt c hc)]
  refine congrArg (fun n : ℕ => (n : EReal)) ?_
  unfold Pool.occ
  rw [Finset.sum_range]
  refine Finset.sum_congr rfl fun q _ => ?_
  rw [codeN_fin, codeN_fin, vx_apply, vx_apply]

include hc in
theorem taken_y (b : Fin 16) (p : Fin 2048) : (taken (vy c) (ix2 b p) : EReal) = ((Pool.occ c b 1 (Pool.codeN c b p.val 1) : ℕ) : EReal) := by
  rw [taken_apply _ (vy_lt c hc)]
  refine congrArg (fun n : ℕ => (n : EReal)) ?_
  unfold Pool.occ
  rw [Finset.sum_range]
  refine Finset.sum_congr rfl fun q _ => ?_
  rw [codeN_fin, codeN_fin, vy_apply, vy_apply]

theorem zero_div (b : Fin 16) (hb : 1 ≤ (l (ix1 b)).toNat) : Ideal.div 0 (Pool.total l c b) = 0 := by
  obtain ⟨r, hr, e⟩ := Pool.total_pos l c b hb
  rw [e, Pool.div_pos_real _ _ hr, zero_mul]

theorem quot_apply (M A B : FVec Ideal S16x2048 .f32) (j : S16x2048.Idx) : (Host.divf M (addf A B) j : EReal) = Ideal.div (M j) ((A j : EReal) + B j) := rfl

include hl hc in
/-- The mask over the frequency is the masked weight. -/
theorem prob_apply (b : Fin 16) (p : Fin 2048) : (prob l (vx c) (vy c) (ix2 b p) : EReal) = Pool.wtM l c b p.val := by
  have e : (prob l (vx c) (vy c) (ix2 b p) : EReal) = Ideal.div (mask l (ix2 b p)) ((taken (vx c) (ix2 b p) : EReal) + taken (vy c) (ix2 b p)) := quot_apply _ _ _ _
  rw [e, mask_apply l b p (hl b).2, taken_x c hc, taken_y c hc, ← Nat.cast_add, ← Pool.freqN_def]
  unfold Pool.wtM
  split_ifs with q
  · rfl
  · have h : (0 : ℝ) < (Pool.freqN c b p.val : ℝ) := Nat.cast_pos.mpr (Pool.freq_pos c b p.val p.isLt)
    rw [← EReal.coe_natCast, Pool.div_pos_real _ _ h, zero_mul]

include hl hc in
/-- The sum a batch row is normalised by. -/
theorem total_apply (b : Fin 16) : (Host.reduceAdd (prob l (vx c) (vy c)) (constant (F := Ideal) S_ .f32 0x00000000#32) reducesTo_S16x2048_S16_d1 h_S_ (ix1 b) : EReal)
    = Pool.total l c b := by
  pointwise
  unfold Pool.total
  exact Finset.sum_congr rfl fun p _ => prob_apply l c hl hc b p

include hl hc in
/-- The reference's weights are the masked weights over their sum: masking them again changes nothing. -/
theorem weights_apply (b : Fin 16) (p : Fin 2048) : (weights l (vx c) (vy c) (ix2 b p) : EReal) = Ideal.div (Pool.wtM l c b p.val) (Pool.total l c b) := by
  have n : (broadcastInDim S16x2048 ![0, 1] bcast_S16x1_S16x2048_0_1 (broadcastInDim S16x1 ![0] bcast_S16_S16x1_0
    (Host.reduceAdd (prob l (vx c) (vy c)) (constant (F := Ideal) S_ .f32 0x00000000#32) reducesTo_S16x2048_S16_d1 h_S_)) (ix2 b p) : EReal) = Pool.total l c b := by
    refine Eq.trans ?_ (total_apply l c hl hc b)
    generalize Host.reduceAdd (prob l (vx c) (vy c)) (constant (F := Ideal) S_ .f32 0x00000000#32) reducesTo_S16x2048_S16_d1 h_S_ = T
    pointwise
  have e : (weights l (vx c) (vy c) (ix2 b p) : EReal) = Ideal.div (prob l (vx c) (vy c) (ix2 b p)) (broadcastInDim S16x2048 ![0, 1] bcast_S16x1_S16x2048_0_1 (broadcastInDim S16x1 ![0] bcast_S16_S16x1_0
    (Host.reduceAdd (prob l (vx c) (vy c)) (constant (F := Ideal) S_ .f32 0x00000000#32) reducesTo_S16x2048_S16_d1 h_S_)) (ix2 b p)) * (mask l (ix2 b p) : EReal) := rfl
  rw [e, n, prob_apply l c hl hc, mask_apply l b p (hl b).2]
  unfold Pool.wtM
  split_ifs with q
  · exact mul_one _
  · rw [mul_zero]; exact (zero_div l c b (hl b).1).symm

include hl hc in
/-- The reference's result is the pooled rows. -/
theorem result_apply (b : Fin 16) (d : Fin 1024) : (result x l (vx c) (vy c) (ix2 b d) : EReal) = Pool.pool x l c b d := by
  rw [← Pool.pool_eq x l c b d (hl b).1]
  unfold result
  have w := weights_apply l c hl hc
  generalize weights l (vx c) (vy c) = y at w
  pointwise
  exact Finset.sum_congr rfl fun p _ => congrArg (x (ix4 b (1 : Fin 2) p d) * ·) (w b p)

end Values

end Cert.Proof.Ref

end
-- ==== Proof.Equal.lean ====
/-
  The kernel and the reference leave the same result, over the extended reals.
-/
module

public import proofs.«01_k».proof.Proof.Frames
public import proofs.«01_k».proof.Proof.PooledRow
public import proofs.«01_k».proof.Proof.Ref

@[expose] public section

set_option maxRecDepth 16384

noncomputable section

namespace Cert.Proof

open Idealize.ShloMosaic Idealize.SL.Sem

/-- The kernel's result and the reference's steps on the same arguments are one array: the pooled rows. -/
theorem same_result (m : (ℓ : Loc Cert.KernelIdeal.nD Cert.KernelIdeal.τ Cert.KernelIdeal.sig) → Buf (Elt Ideal) ℓ) (h : Pool.InOk m) (d : Dev Cert.KernelIdeal.nD) :
    Ref.result (Pool.featM m d) (Pool.lensM m d) (Ref.wrap 320#32 (Ref.vx (Pool.codesM m d))) (Ref.wrap 320#32 (Ref.vy (Pool.codesM m d))) = Pool.outM m h d := by
  have hc : ∀ j, ((Pool.codesM m d : IVec Cert.ReferenceIdeal.S16x2048x2 32) j).toNat < 320 := h.code d
  rw [Ref.wrap_eq _ _ (fun j => lt_trans (Ref.vx_lt _ hc j) (by decide)), Ref.wrap_eq _ _ (fun j => lt_trans (Ref.vy_lt _ hc j) (by decide))]
  funext j
  idx_vars j
  exact (Ref.result_apply _ _ _ (fun b => h.len d (ix1 b)) hc j0 j1).trans (Pool.outM_apply m h d j0 j1).symm

/-- From memories that agree on the arguments, in range, both programs run to the end with the same result. -/
theorem algebraic : Cert.algebraic_KernelIdeal_ReferenceIdeal := fun m g m' g' hm hagree => by
  have h := inOk_of m hm
  refine ⟨fun c => Pool.outM m h c, ?_, ?_⟩
  · haveI := elt_ideal
    exact (θ_run (Cert.KernelIdeal.defs (F := Ideal)) (Cert.KernelIdeal.threads (F := Ideal)) _).mono
      (fun _ q c => ⟨(q.1 c).2.2.2, (q.1 c).1, (q.1 c).2.1, (q.1 c).2.2.1⟩) (Pool.run_main (F := Ideal) m g h)
  · refine (θ_run Cert.ReferenceIdeal.defs _ _).mono (fun r q c => ⟨(q c).1.trans ?_, (q c).2⟩) (Cert.ReferenceIdeal.Value.run (F := Ideal) m' g')
    obtain ⟨e0, e1, e2⟩ := hagree c
    rw [Ref.res_eq, e0, e1, e2]
    exact same_result m h c

end Cert.Proof

end
-- ==== Proof.lean ====
/-
  The claims about the pooling kernel, assembled: the frames (Proof/Frames.lean, from the kernel's one run in Proof/Main.lean) and
  the equality with the reference over the extended reals (Proof/Equal.lean).
-/
module

public import proofs.«01_k».proof.Proof.Frames
public import proofs.«01_k».proof.Proof.Equal
public import proofs.«01_k».proof.Proof.Gen.Pre_in_range

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, algebraic⟩

end Cert.Proof

end
